-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables3 : Cert.Pre_tables3.Facts] (m : (ℓ : Loc Cert.Kernel3.nD Cert.Kernel3.τ Cert.Kernel3.sig) → Buf (Elt Bits) ℓ) : Prop :=
  ∀ c : Dev Cert.Kernel3.nD,
    (Cert.Pre_tables3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_tables3 : Cert.Pre_tables3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables3 [hPre_tables3 : Cert.Pre_tables3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tables [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_tables3 : Cert.Pre_tables3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_tables3 : Cert.Pre_tables3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_tables3 [hReference3Ideal : Cert.Reference3Ideal.Facts] [hPre_tables3 : Cert.Pre_tables3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_tables3 : Cert.Pre_tables3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_tables : Cert.Pre_tables.Facts) (hPre_tables3 : Cert.Pre_tables3.Facts),
    quiescent_Kernel (hKernel := hKernel) (hPre_tables := hPre_tables)
    ∧ quiescent_KernelIdeal (hKernelIdeal := hKernelIdeal) (hPre_tables := hPre_tables)
    ∧ quiescent_ReferenceIdeal (hReferenceIdeal := hReferenceIdeal)
    ∧ quiescent_ReferenceIdeal_pre_tables (hReferenceIdeal := hReferenceIdeal) (hPre_tables := hPre_tables)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables3 := hPre_tables3)
    ∧ quiescent_Kernel3Ideal (hKernel3Ideal := hKernel3Ideal) (hPre_tables3 := hPre_tables3)
    ∧ quiescent_Reference3Ideal (hReference3Ideal := hReference3Ideal)
    ∧ quiescent_Reference3Ideal_pre_tables3 (hReference3Ideal := hReference3Ideal) (hPre_tables3 := hPre_tables3)
    ∧ preserves_Kernel_KernelIdeal
    ∧ algebraic_KernelIdeal_ReferenceIdeal (hKernelIdeal := hKernelIdeal) (hReferenceIdeal := hReferenceIdeal) (hPre_tables := hPre_tables)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables3 := hPre_tables3)
-- ==== Pre_tables.lean ====
abbrev S160 : Shape := ⟨1, ![160]⟩
abbrev S1 : Shape := ⟨1, ![1]⟩
abbrev S40960x2048 : Shape := ⟨2, ![40960, 2048]⟩
abbrev S1x32x2048x4096 : Shape := ⟨4, ![1, 32, 2048, 4096]⟩
abbrev S1x32x4096 : Shape := ⟨3, ![1, 32, 4096]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  shapeCasts_S1_S_ : S1.ShapeCasts S_

variable [Facts]

def fn {F : FTy → Type} [FloatOps F] (main_arg0 : IVec S160 32) (main_arg1 : IVec S1 32) (main_arg2 : FVec F S40960x2048 .bf16) (main_arg3 : FVec F S1x32x2048x4096 .f32) (main_arg4 : FVec F S1x32x4096 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Pre_tables3.lean ====
abbrev S160 : Shape := ⟨1, ![160]⟩
abbrev S1 : Shape := ⟨1, ![1]⟩
abbrev S40960x2048 : Shape := ⟨2, ![40960, 2048]⟩
abbrev S1x32x2048x2048 : Shape := ⟨4, ![1, 32, 2048, 2048]⟩
abbrev S1x32x2048 : Shape := ⟨3, ![1, 32, 2048]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  shapeCasts_S1_S_ : S1.ShapeCasts S_

variable [Facts]

def fn {F : FTy → Type} [FloatOps F] (main_arg0 : IVec S160 32) (main_arg1 : IVec S1 32) (main_arg2 : FVec F S40960x2048 .bf16) (main_arg3 : FVec F S1x32x2048x2048 .f32) (main_arg4 : FVec F S1x32x2048 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S160 : Shape := ⟨1, ![160]⟩
abbrev S1 : Shape := ⟨1, ![1]⟩
abbrev S40960x2048 : Shape := ⟨2, ![40960, 2048]⟩
abbrev S1x32x2048x4096 : Shape := ⟨4, ![1, 32, 2048, 4096]⟩
abbrev S1x32x4096 : Shape := ⟨3, ![1, 32, 4096]⟩
abbrev S32x2048x4096 : Shape := ⟨3, ![32, 2048, 4096]⟩
abbrev S32x4096 : Shape := ⟨2, ![32, 4096]⟩
abbrev S32x1x4096 : Shape := ⟨3, ![32, 1, 4096]⟩
abbrev S256x2048 : Shape := ⟨2, ![256, 2048]⟩
abbrev S1x2048x512 : Shape := ⟨3, ![1, 2048, 512]⟩
abbrev S1x1x512 : Shape := ⟨3, ![1, 1, 512]⟩
abbrev S256x512 : Shape := ⟨2, ![256, 512]⟩
abbrev S2048x512 : Shape := ⟨2, ![2048, 512]⟩
abbrev S1x512 : Shape := ⟨2, ![1, 512]⟩

abbrev nBuf : Space → Nat
  | .hbm => 8
  | .vmem => 14
  | .smem => 2
  | _ => 0

abbrev bufTy : (tb : Table) → Fin (tcTables nBuf tb) → BufTy
  | .hbm, ⟨0, _⟩ => ⟨S40960x2048, .bf16⟩
  | .hbm, ⟨1, _⟩ => ⟨S1x32x2048x4096, .f32⟩
  | .hbm, ⟨2, _⟩ => ⟨S1x32x4096, .f32⟩
  | .hbm, ⟨3, _⟩ => ⟨S32x2048x4096, .f32⟩
  | .hbm, ⟨4, _⟩ => ⟨S32x4096, .f32⟩
  | .hbm, ⟨5, _⟩ => ⟨S32x1x4096, .f32⟩
  | .hbm, ⟨6, _⟩ => ⟨S32x1x4096, .f32⟩
  | .hbm, ⟨7, _⟩ => ⟨S40960x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S256x512, .bf16⟩
  | .local _ .vmem, ⟨11, _⟩ => ⟨S256x512, .bf16⟩
  | .local _ .vmem, ⟨12, _⟩ => ⟨S2048x512, .bf16⟩
  | .local _ .vmem, ⟨13, _⟩ => ⟨S2048x512, .bf16⟩
  | .local _ .smem, ⟨0, _⟩ => ⟨S160, .i32⟩
  | .local _ .smem, ⟨1, _⟩ => ⟨S1, .i32⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 160], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v8 : BitVec 32 := Scalar.subi arg1 c1_i32
  let c0_i32_2 : BitVec 32 := 0#32
  let v9 : BitVec 32 := Scalar.maxsi v8 c0_i32_2
  let v10 : Index := Scalar.indexCast v9
  ![v10.toNat]
def k0_off3 (i : grid0.Coords) : Fin 1 → Nat :=
  let arg1 : BitVec 32 := BitVec.ofNat 32 (i 1).val
  let v13 : Index := Scalar.indexCast arg1
  ![v13.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  ![v1.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S160 : Shape := ⟨1, ![160]⟩
abbrev S1 : Shape := ⟨1, ![1]⟩
abbrev S40960x2048 : Shape := ⟨2, ![40960, 2048]⟩
abbrev S1x32x2048x4096 : Shape := ⟨4, ![1, 32, 2048, 4096]⟩
abbrev S1x32x4096 : Shape := ⟨3, ![1, 32, 4096]⟩
abbrev S160x256x2048 : Shape := ⟨3, ![160, 256, 2048]⟩
abbrev S32x2048x4096 : Shape := ⟨3, ![32, 2048, 4096]⟩
abbrev S_ : Shape := ⟨0, ![]⟩
abbrev S160x1 : Shape := ⟨2, ![160, 1]⟩
abbrev S160x2048x4096 : Shape := ⟨3, ![160, 2048, 4096]⟩
abbrev S160x256x4096 : Shape := ⟨3, ![160, 256, 4096]⟩
abbrev S32x4096 : Shape := ⟨2, ![32, 4096]⟩
abbrev S160x4096 : Shape := ⟨2, ![160, 4096]⟩
abbrev S160x1x4096 : Shape := ⟨3, ![160, 1, 4096]⟩
abbrev S160x1x1 : Shape := ⟨3, ![160, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x2048, .bf16⟩
  | .hbm, ⟨3, _⟩ => ⟨S1x32x2048x4096, .f32⟩
  | .hbm, ⟨4, _⟩ => ⟨S1x32x4096, .f32⟩
  | .hbm, ⟨5, _⟩ => ⟨S40960x2048, .f32⟩
  | .hbm, ⟨6, _⟩ => ⟨S160x256x2048, .f32⟩
  | .hbm, ⟨7, _⟩ => ⟨S32x2048x4096, .f32⟩
  | .hbm, ⟨8, _⟩ => ⟨S_, .i32⟩
  | .hbm, ⟨9, _⟩ => ⟨S160, .i32⟩
  | .hbm, ⟨10, _⟩ => ⟨S160, .i1⟩
  | .hbm, ⟨11, _⟩ => ⟨S_, .i32⟩
  | .hbm, ⟨12, _⟩ => ⟨S160, .i32⟩
  | .hbm, ⟨13, _⟩ => ⟨S160, .i32⟩
  | .hbm, ⟨14, _⟩ => ⟨S160, .i32⟩
  | .hbm, ⟨15, _⟩ => ⟨S160x1, .i32⟩
  | .hbm, ⟨16, _⟩ => ⟨S160x2048x4096, .f32⟩
  | .hbm, ⟨17, _⟩ => ⟨S160x256x4096, .f32⟩
  | .hbm, ⟨18, _⟩ => ⟨S32x4096, .f32⟩
  | .hbm, ⟨19, _⟩ => ⟨S_, .i32⟩
  | .hbm, ⟨20, _⟩ => ⟨S160, .i32⟩
  | .hbm, ⟨21, _⟩ => ⟨S160, .i1⟩
  | .hbm, ⟨22, _⟩ => ⟨S_, .i32⟩
  | .hbm, ⟨23, _⟩ => ⟨S160, .i32⟩
  | .hbm, ⟨24, _⟩ => ⟨S160, .i32⟩
  | .hbm, ⟨25, _⟩ => ⟨S160, .i32⟩
  | .hbm, ⟨26, _⟩ => ⟨S160x1, .i32⟩
  | .hbm, ⟨27, _⟩ => ⟨S160x4096, .f32⟩
  | .hbm, ⟨28, _⟩ => ⟨S160x1x4096, .f32⟩
  | .hbm, ⟨29, _⟩ => ⟨S160x256x4096, .f32⟩
  | .hbm, ⟨30, _⟩ => ⟨S160x256x4096, .f32⟩
  | .hbm, ⟨31, _⟩ => ⟨S160x256x2048, .f32⟩
  | .hbm, ⟨32, _⟩ => ⟨S160x256x2048, .f32⟩
  | .hbm, ⟨33, _⟩ => ⟨S_, .f32⟩
  | .hbm, ⟨34, _⟩ => ⟨S160x256x2048, .f32⟩
  | .hbm, ⟨35, _⟩ => ⟨S160x256x2048, .f32⟩
  | .hbm, ⟨36, _⟩ => ⟨S_, .f32⟩
  | .hbm, ⟨37, _⟩ => ⟨S160x256x2048, .f32⟩
  | .hbm, ⟨38, _⟩ => ⟨S160x256x2048, .f32⟩
  | .hbm, ⟨39, _⟩ => ⟨S_, .f32⟩
  | .hbm, ⟨40, _⟩ => ⟨S160x256x2048, .f32⟩
  | .hbm, ⟨41, _⟩ => ⟨S160x256x2048, .f32⟩
  | .hbm, ⟨42, _⟩ => ⟨S_, .f32⟩
  | .hbm, ⟨43, _⟩ => ⟨S160x256x2048, .f32⟩
  | .hbm, ⟨44, _⟩ => ⟨S160x256x2048, .f32⟩
  | .hbm, ⟨45, _⟩ => ⟨S160x256x2048, .f32⟩
  | .hbm, ⟨46, _⟩ => ⟨S_, .f32⟩
  | .hbm, ⟨47, _⟩ => ⟨S160x256x2048, .f32⟩
  | .hbm, ⟨48, _⟩ => ⟨S160x256x2048, .f32⟩
  | .hbm, ⟨49, _⟩ => ⟨S160x256x2048, .f32⟩
  | .hbm, ⟨50, _⟩ => ⟨S160x256x2048, .f32⟩
  | .hbm, ⟨51, _⟩ => ⟨S_, .f32⟩
  | .hbm, ⟨52, _⟩ => ⟨S160x256x2048, .f32⟩
  | .hbm, ⟨53, _⟩ => ⟨S160x256x2048, .f32⟩
  | .hbm, ⟨54, _⟩ => ⟨S_, .f32⟩
  | .hbm, ⟨55, _⟩ => ⟨S160x256x2048, .f32⟩
  | .hbm, ⟨56, _⟩ => ⟨S160x256x2048, .f32⟩
  | .hbm, ⟨57, _⟩ => ⟨S160x256x2048, .f32⟩
  | .hbm, ⟨58, _⟩ => ⟨S160, .i32⟩
  | .hbm, ⟨59, _⟩ => ⟨S_, .i32⟩
  | .hbm, ⟨60, _⟩ => ⟨S160, .i32⟩
  | .hbm, ⟨61, _⟩ => ⟨S160, .i1⟩
  | .hbm, ⟨62, _⟩ => ⟨S160x1x1, .i1⟩
  | .hbm, ⟨63, _⟩ => ⟨S160x256x2048, .i1⟩
  | .hbm, ⟨64, _⟩ => ⟨S_, .f32⟩
  | .hbm, ⟨65, _⟩ => ⟨S160x256x2048, .f32⟩
  | .hbm, ⟨66, _⟩ => ⟨S160x256x2048, .f32⟩
  | .hbm, ⟨67, _⟩ => ⟨S40960x2048, .f32⟩
  | .hbm, ⟨68, _⟩ => ⟨S40960x2048, .bf16⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Kernel2.lean ====
abbrev S2x4096x2048 : Shape := ⟨3, ![2, 4096, 2048]⟩
abbrev S1x2048 : Shape := ⟨2, ![1, 2048]⟩
abbrev S2x1x2048 : Shape := ⟨3, ![2, 1, 2048]⟩
abbrev S1x2048x4512 : Shape := ⟨3, ![1, 2048, 4512]⟩
abbrev S2048x4512 : Shape := ⟨2, ![2048, 4512]⟩
abbrev S2048x1024 : Shape := ⟨2, ![2048, 1024]⟩
abbrev S2048x3488 : Shape := ⟨2, ![2048, 3488]⟩
abbrev S2048 : Shape := ⟨1, ![2048]⟩
abbrev S2x4096x1024 : Shape := ⟨3, ![2, 4096, 1024]⟩
abbrev S2x4096x3488 : Shape := ⟨3, ![2, 4096, 3488]⟩
abbrev S1x256x2048 : Shape := ⟨3, ![1, 256, 2048]⟩
abbrev S1x1x2048 : Shape := ⟨3, ![1, 1, 2048]⟩
abbrev S1x256x1024 : Shape := ⟨3, ![1, 256, 1024]⟩
abbrev S1x256x3488 : Shape := ⟨3, ![1, 256, 3488]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x3488 : Shape := ⟨2, ![256, 3488]⟩

abbrev nBuf : Space → Nat
  | .hbm => 15
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S1x2048x4512, .f32⟩
  | .hbm, ⟨5, _⟩ => ⟨S2048x4512, .f32⟩
  | .hbm, ⟨6, _⟩ => ⟨S2048x1024, .f32⟩
  | .hbm, ⟨7, _⟩ => ⟨S2048x1024, .bf16⟩
  | .hbm, ⟨8, _⟩ => ⟨S2048x4512, .f32⟩
  | .hbm, ⟨9, _⟩ => ⟨S2048x3488, .f32⟩
  | .hbm, ⟨10, _⟩ => ⟨S2048x3488, .bf16⟩
  | .hbm, ⟨11, _⟩ => ⟨S2048, .f32⟩
  | .hbm, ⟨12, _⟩ => ⟨S1x2048, .f32⟩
  | .hbm, ⟨13, _⟩ => ⟨S2x4096x1024, .f32⟩
  | .hbm, ⟨14, _⟩ => ⟨S2x4096x3488, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x3488, .bf16⟩
  | .local _ .vmem, ⟨9, _⟩ => ⟨S1x256x1024, .f32⟩
  | .local _ .vmem, ⟨10, _⟩ => ⟨S1x256x1024, .f32⟩
  | .local _ .vmem, ⟨11, _⟩ => ⟨S1x256x3488, .f32⟩
  | .local _ .vmem, ⟨12, _⟩ => ⟨S1x256x3488, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x3488 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x3488 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S2x4096x2048 : Shape := ⟨3, ![2, 4096, 2048]⟩
abbrev S1x2048 : Shape := ⟨2, ![1, 2048]⟩
abbrev S2x1x2048 : Shape := ⟨3, ![2, 1, 2048]⟩
abbrev S1x2048x4512 : Shape := ⟨3, ![1, 2048, 4512]⟩
abbrev S_ : Shape := ⟨0, ![]⟩
abbrev S2x4096 : Shape := ⟨2, ![2, 4096]⟩
abbrev S2x4096x1 : Shape := ⟨3, ![2, 4096, 1]⟩
abbrev S2048 : Shape := ⟨1, ![2048]⟩
abbrev S1x1x2048 : Shape := ⟨3, ![1, 1, 2048]⟩
abbrev S2048x4512 : Shape := ⟨2, ![2048, 4512]⟩
abbrev S2x4096x4512 : Shape := ⟨3, ![2, 4096, 4512]⟩
abbrev S2x4096x1024 : Shape := ⟨3, ![2, 4096, 1024]⟩
abbrev S2x4096x3488 : Shape := ⟨3, ![2, 4096, 3488]⟩

abbrev nBuf : Space → Nat
  | .hbm => 33
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S1x2048x4512, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S2048x4512, .f32⟩
  | .hbm, ⟨30, _⟩ => ⟨S2x4096x4512, .f32⟩
  | .hbm, ⟨31, _⟩ => ⟨S2x4096x1024, .f32⟩
  | .hbm, ⟨32, _⟩ => ⟨S2x4096x3488, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel3.lean ====
abbrev S160 : Shape := ⟨1, ![160]⟩
abbrev S1 : Shape := ⟨1, ![1]⟩
abbrev S40960x2048 : Shape := ⟨2, ![40960, 2048]⟩
abbrev S1x32x2048x2048 : Shape := ⟨4, ![1, 32, 2048, 2048]⟩
abbrev S1x32x2048 : Shape := ⟨3, ![1, 32, 2048]⟩
abbrev S32x2048x2048 : Shape := ⟨3, ![32, 2048, 2048]⟩
abbrev S32x2048 : Shape := ⟨2, ![32, 2048]⟩
abbrev S32x1x2048 : Shape := ⟨3, ![32, 1, 2048]⟩
abbrev S40960x16x128 : Shape := ⟨3, ![40960, 16, 128]⟩
abbrev S256x2048 : Shape := ⟨2, ![256, 2048]⟩
abbrev S1x2048x1024 : Shape := ⟨3, ![1, 2048, 1024]⟩
abbrev S1x1x1024 : Shape := ⟨3, ![1, 1, 1024]⟩
abbrev S256x8x128 : Shape := ⟨3, ![256, 8, 128]⟩
abbrev S2048x1024 : Shape := ⟨2, ![2048, 1024]⟩
abbrev S256x1024 : Shape := ⟨2, ![256, 1024]⟩
abbrev S1x1024 : Shape := ⟨2, ![1, 1024]⟩
abbrev S256x128 : Shape := ⟨2, ![256, 128]⟩
abbrev S256x1x128 : Shape := ⟨3, ![256, 1, 128]⟩

abbrev nBuf : Space → Nat
  | .hbm => 7
  | .vmem => 9
  | .smem => 2
  | _ => 0

abbrev bufTy : (tb : Table) → Fin (tcTables nBuf tb) → BufTy
  | .hbm, ⟨0, _⟩ => ⟨S40960x2048, .bf16⟩
  | .hbm, ⟨1, _⟩ => ⟨S1x32x2048x2048, .f32⟩
  | .hbm, ⟨2, _⟩ => ⟨S1x32x2048, .f32⟩
  | .hbm, ⟨3, _⟩ => ⟨S32x2048x2048, .f32⟩
  | .hbm, ⟨4, _⟩ => ⟨S32x2048, .f32⟩
  | .hbm, ⟨5, _⟩ => ⟨S32x1x2048, .f32⟩
  | .hbm, ⟨6, _⟩ => ⟨S40960x16x128, .f32⟩
  | .local _ .vmem, ⟨0, _⟩ => ⟨S256x2048, .bf16⟩
  | .local _ .vmem, ⟨1, _⟩ => ⟨S256x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x8x128, .f32⟩
  | .local _ .vmem, ⟨7, _⟩ => ⟨S256x8x128, .f32⟩
  | .local _ .vmem, ⟨8, _⟩ => ⟨S2048x1024, .bf16⟩
  | .local _ .smem, ⟨0, _⟩ => ⟨S160, .i32⟩
  | .local _ .smem, ⟨1, _⟩ => ⟨S1, .i32⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 160], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v8 : BitVec 32 := Scalar.subi arg1 c1_i32
  let c0_i32_2 : BitVec 32 := 0#32
  let v9 : BitVec 32 := Scalar.maxsi v8 c0_i32_2
  let v10 : Index := Scalar.indexCast v9
  ![v10.toNat]
def k0_off3 (i : grid0.Coords) : Fin 1 → Nat :=
  let arg1 : BitVec 32 := BitVec.ofNat 32 (i 1).val
  let v13 : Index := Scalar.indexCast arg1
  ![v13.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S160 : Shape := ⟨1, ![160]⟩
abbrev S1 : Shape := ⟨1, ![1]⟩
abbrev S40960x2048 : Shape := ⟨2, ![40960, 2048]⟩
abbrev S1x32x2048x2048 : Shape := ⟨4, ![1, 32, 2048, 2048]⟩
abbrev S1x32x2048 : Shape := ⟨3, ![1, 32, 2048]⟩
abbrev S160x256x2048 : Shape := ⟨3, ![160, 256, 2048]⟩
abbrev S32x2048x2048 : Shape := ⟨3, ![32, 2048, 2048]⟩
abbrev S_ : Shape := ⟨0, ![]⟩
abbrev S160x1 : Shape := ⟨2, ![160, 1]⟩
abbrev S160x2048x2048 : Shape := ⟨3, ![160, 2048, 2048]⟩
abbrev S32x2048 : Shape := ⟨2, ![32, 2048]⟩
abbrev S160x2048 : Shape := ⟨2, ![160, 2048]⟩
abbrev S160x1x2048 : Shape := ⟨3, ![160, 1, 2048]⟩
abbrev S160x1x1 : Shape := ⟨3, ![160, 1, 1]⟩
abbrev S40960x16x128 : Shape := ⟨3, ![40960, 16, 128]⟩

abbrev nBuf : Space → Nat
  | .hbm => 41
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x2048, .bf16⟩
  | .hbm, ⟨3, _⟩ => ⟨S1x32x2048x2048, .f32⟩
  | .hbm, ⟨4, _⟩ => ⟨S1x32x2048, .f32⟩
  | .hbm, ⟨5, _⟩ => ⟨S40960x2048, .f32⟩
  | .hbm, ⟨6, _⟩ => ⟨S160x256x2048, .f32⟩
  | .hbm, ⟨7, _⟩ => ⟨S32x2048x2048, .f32⟩
  | .hbm, ⟨8, _⟩ => ⟨S_, .i32⟩
  | .hbm, ⟨9, _⟩ => ⟨S160, .i32⟩
  | .hbm, ⟨10, _⟩ => ⟨S160, .i1⟩
  | .hbm, ⟨11, _⟩ => ⟨S_, .i32⟩
  | .hbm, ⟨12, _⟩ => ⟨S160, .i32⟩
  | .hbm, ⟨13, _⟩ => ⟨S160, .i32⟩
  | .hbm, ⟨14, _⟩ => ⟨S160, .i32⟩
  | .hbm, ⟨15, _⟩ => ⟨S160x1, .i32⟩
  | .hbm, ⟨16, _⟩ => ⟨S160x2048x2048, .f32⟩
  | .hbm, ⟨17, _⟩ => ⟨S160x256x2048, .f32⟩
  | .hbm, ⟨18, _⟩ => ⟨S32x2048, .f32⟩
  | .hbm, ⟨19, _⟩ => ⟨S_, .i32⟩
  | .hbm, ⟨20, _⟩ => ⟨S160, .i32⟩
  | .hbm, ⟨21, _⟩ => ⟨S160, .i1⟩
  | .hbm, ⟨22, _⟩ => ⟨S_, .i32⟩
  | .hbm, ⟨23, _⟩ => ⟨S160, .i32⟩
  | .hbm, ⟨24, _⟩ => ⟨S160, .i32⟩
  | .hbm, ⟨25, _⟩ => ⟨S160, .i32⟩
  | .hbm, ⟨26, _⟩ => ⟨S160x1, .i32⟩
  | .hbm, ⟨27, _⟩ => ⟨S160x2048, .f32⟩
  | .hbm, ⟨28, _⟩ => ⟨S160x1x2048, .f32⟩
  | .hbm, ⟨29, _⟩ => ⟨S160x256x2048, .f32⟩
  | .hbm, ⟨30, _⟩ => ⟨S160x256x2048, .f32⟩
  | .hbm, ⟨31, _⟩ => ⟨S160, .i32⟩
  | .hbm, ⟨32, _⟩ => ⟨S_, .i32⟩
  | .hbm, ⟨33, _⟩ => ⟨S160, .i32⟩
  | .hbm, ⟨34, _⟩ => ⟨S160, .i1⟩
  | .hbm, ⟨35, _⟩ => ⟨S160x1x1, .i1⟩
  | .hbm, ⟨36, _⟩ => ⟨S160x256x2048, .i1⟩
  | .hbm, ⟨37, _⟩ => ⟨S_, .f32⟩
  | .hbm, ⟨38, _⟩ => ⟨S160x256x2048, .f32⟩
  | .hbm, ⟨39, _⟩ => ⟨S160x256x2048, .f32⟩
  | .hbm, ⟨40, _⟩ => ⟨S40960x16x128, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.Gate.Texts.lean ====
/-
  The gate-and-up kernel's text, and its text as it is read over the extended reals, are one and the same: no operation was
  rewritten between the two, so they agree statement by statement at the hardware's floats.
-/
module

public import proofs.«01_k».proof.Defs
public import proofs.«01_k».proof.Proof.Gen.Kernel
public import proofs.«01_k».proof.Proof.Gen.KernelIdeal

@[expose] public section

set_option maxRecDepth 65536

noncomputable section

namespace Cert.Gate.Texts

open Idealize.ShloMosaic Idealize.ShloMosaic.TcCoe Idealize.SL.Sem

set_option smartUnfolding false in
set_option maxHeartbeats 1000000 in
theorem part : @Cert.Kernel.k0_part1 Bits _ _ = @Cert.KernelIdeal.k0_part1 Bits _ _ := by
  unfold Cert.Kernel.k0_part1 Cert.KernelIdeal.k0_part1
  rfl

set_option smartUnfolding false in
set_option maxHeartbeats 1000000 in
theorem body : Cert.Kernel.cc0_moe_gate_up (F := Bits) = Cert.KernelIdeal.cc0_moe_gate_up (F := Bits) := by
  unfold Cert.Kernel.cc0_moe_gate_up Cert.KernelIdeal.cc0_moe_gate_up
  rw [part]
  rfl

set_option smartUnfolding false in
theorem bodies : Cert.Kernel.defs₀ (F := Bits) = Cert.KernelIdeal.defs₀ (F := Bits) := by
  unfold Cert.Kernel.defs₀ Cert.KernelIdeal.defs₀
  rw [body]
  rfl

theorem labels : Cert.Kernel.defs (F := Bits) = Cert.KernelIdeal.defs (F := Bits) := by
  unfold Cert.Kernel.defs Cert.KernelIdeal.defs
  rw [bodies]
  rfl

end Cert.Gate.Texts

end
-- ==== Proof.Gate.Run.lean ====
/-
  One grid point of the gate-and-up kernel: what the body leaves in its output block and in its two kept weight blocks,
  in each of the three ways it can go. At any interpretation of the floating-point operations and any tables.
-/
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of experts and the count of valid blocks, whole, and the two kept weight blocks. -/
abbrev tb0 : Memref sig .tc .smem S160 .i32 := Memref.whole main_arg0
abbrev tb1 : Memref sig .tc .smem S1 .i32 := Memref.whole main_arg1
abbrev sc0 : Memref sig .tc .vmem S2048x512 .bf16 := Memref.whole cc0_scratch0
abbrev sc1 : Memref sig .tc .vmem S2048x512 .bf16 := Memref.whole cc0_scratch1

/-- The table words the body reads: the count, the block's expert, and the expert of the block before. -/
abbrev wCount (T1 : S1.Idx → Elt F .i32) : BitVec 32 :=
  View.readAt (Elt F) tb1.view (Rect.unit (s := S1) ![0] S1.size inb_S1_S1_0).toLoadRect T1 (Shape.Idx.first (numel1_S1.symm ▸ Nat.one_pos))
abbrev wHere (i : grid0.Coords) (T0 : S160.Idx → Elt F .i32) : BitVec 32 :=
  View.readAt (Elt F) tb0.view (Rect.unit (s := S160) (k0_off3 i) S1.size (k0_off3_inb i)).toLoadRect T0 (Shape.Idx.first (numel1_S1.symm ▸ Nat.one_pos))
abbrev wLast (i : grid0.Coords) (T0 : S160.Idx → Elt F .i32) : BitVec 32 :=
  View.readAt (Elt F) tb0.view (Rect.unit (s := S160) (k0_off2 i) S1.size (k0_off2_inb i)).toLoadRect T0 (Shape.Idx.first (numel1_S1.symm ▸ Nat.one_pos))

/-- Whether the weight blocks are taken anew: at a column's first block, and where the expert changes. -/
abbrev wNew (i : grid0.Coords) (T0 : S160.Idx → Elt F .i32) : BitVec 1 :=
  Scalar.cmpi .ne (Scalar.extui (Scalar.ori (Scalar.cmpi .eq (BitVec.ofNat 32 (i 1).val) 0#32) (Scalar.cmpi .ne (wHere i T0) (wLast i T0)))) 0#32

/-- The output block of a valid point, from its rows, the two kept weight blocks and the two bias rows. -/
def outOf (x : Vec F S256x2048 .bf16) (a0 a1 : Vec F S2048x512 .bf16) (b0 b1 : Vec F S1x1x512 .f32) : Vec F S256x512 .bf16 :=
  k0_pay1 (k0_pay6 x a0 b0 a1 b1) (k0_pay7 x a0 b0)

set_option maxHeartbeats 8000000 in
/-- A valid block whose expert is new: both weight blocks are rounded and kept, then used. -/
theorem run_new (c : Dev nD) (i : grid0.Coords) (arg4 : Memref sig .tc .vmem S256x2048 .bf16) (harg4 : arg4.IsWhole)
    (arg5 : Memref sig .tc .vmem S1x2048x512 .f32) (harg5 : arg5.IsWhole) (arg6 : Memref sig .tc .vmem S1x2048x512 .f32) (harg6 : arg6.IsWhole)
    (arg7 : Memref sig .tc .vmem S1x1x512 .f32) (harg7 : arg7.IsWhole) (arg8 : Memref sig .tc .vmem S1x1x512 .f32) (harg8 : arg8.IsWhole)
    (arg9 : Memref sig .tc .vmem S256x512 .bf16) (harg9 : arg9.IsWhole)
    (T0 : S160.Idx → Elt F .i32) (T1 : S1.Idx → Elt F .i32)
    (x : Vec F S256x2048 .bf16) (w0 w1 : Vec F S1x2048x512 .f32) (b0 b1 : Vec F S1x1x512 .f32)
    (k0_h1 : k0_cond1 i (wCount T1) = 1#1) (hc1 : wNew i T0 = 1#1) (k0_h3 : ¬(k0_cond3 i (wCount T1) = 1#1))
    (K : PUnit → sProp 𝕄) :
    iprop((arg4.view.loc (c : Thread nD τ) ↦[arg4.view.set]{fullShare} arg4.view.rep x)
      ∗ (arg5.view.loc (c : Thread nD τ) ↦[arg5.view.set]{fullShare} arg5.view.rep w0)
      ∗ (arg6.view.loc (c : Thread nD τ) ↦[arg6.view.set]{fullShare} arg6.view.rep w1)
      ∗ (arg7.view.loc (c : Thread nD τ) ↦[arg7.view.set]{fullShare} arg7.view.rep b0)
      ∗ (arg8.view.loc (c : Thread nD τ) ↦[arg8.view.set]{fullShare} arg8.view.rep b1)
      ∗ (tb0.view.loc (c : Thread nD τ) ↦{fullShare.right} T0)
      ∗ (tb1.view.loc (c : Thread nD τ) ↦{fullShare.right} T1)
      ∗ (∃ d, owns (c : Thread nD τ) arg9 fullShare d)
      ∗ (∃ d, owns (c : Thread nD τ) sc0 fullShare d)
      ∗ (∃ d, owns (c : Thread nD τ) sc1 fullShare d)
      ∗ (iprop((arg4.view.loc (c : Thread nD τ) ↦[arg4.view.set]{fullShare} arg4.view.rep x)
          ∗ (arg5.view.loc (c : Thread nD τ) ↦[arg5.view.set]{fullShare} arg5.view.rep w0)
          ∗ (arg6.view.loc (c : Thread nD τ) ↦[arg6.view.set]{fullShare} arg6.view.rep w1)
          ∗ (arg7.view.loc (c : Thread nD τ) ↦[arg7.view.set]{fullShare} arg7.view.rep b0)
          ∗ (arg8.view.loc (c : Thread nD τ) ↦[arg8.view.set]{fullShare} arg8.view.rep b1)
          ∗ (tb0.view.loc (c : Thread nD τ) ↦{fullShare.right} T0)
          ∗ (tb1.view.loc (c : Thread nD τ) ↦{fullShare.right} T1)
          ∗ owns (c : Thread nD τ) arg9 fullShare (outOf x (k0_pay3 w0) (k0_pay4 w1) b0 b1)
          ∗ owns (c : Thread nD τ) sc0 fullShare (k0_pay3 w0)
          ∗ owns (c : Thread nD τ) sc1 fullShare (k0_pay4 w1)) -∗ K ⟨⟩))
      ⊢ wp frame (wpE (defs₀ (F := F)) Variants.none c none) Set.univ
          (cc0_moe_gate_up i tb0 (Memref.isWhole_whole _) tb1 (Memref.isWhole_whole _) arg4 harg4 arg5 harg5 arg6 harg6 arg7 harg7 arg8 harg8
            arg9 harg9 sc0 (Memref.isWhole_whole _) sc1 (Memref.isWhole_whole _)) K := by
  unfold owns
  rw [cc0_moe_gate_up_eq_skeleton]; unfold cc0_moe_gate_up_skel
  rw [k0_part1_eq_skeleton]; unfold k0_part1_skel
  iintro ⟨H0, H1, H2, H3, H4, HT0, HT1, ⟨%d5, %f5, -, H5⟩, ⟨%d6, %f6, -, HS0⟩, ⟨%d7, %f7, -, HS1⟩, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = k0_cond1 _ _ = _; exact k0_h1) | (guard_target = Scalar.cmpi = _; exact hc1) | (guard_target = ¬(k0_cond3 _ _ = _); exact k0_h3))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [H5]
  · iexists _; isplitr
    swap; · iexact H5
    ipureintro
    unfold run_new.sl.H5_1 run_new.sl.v20 run_new.sl.v26 run_new.sl.HS0_1 run_new.sl.HS1_1 outOf
    refine (View.read_writes_full _ _ _ _ _).trans ?_
    rw [View.readCov_full, View.readCov_full, View.readAt_rep_full, View.readAt_rep_full, View.readAt_rep_full, View.readAt_rep_full,
      View.readAt_rep_full]
  isplitl [HS0]
  · iexists _; isplitr
    swap; · iexact HS0
    ipureintro
    unfold run_new.sl.HS0_1
    refine (View.read_writes_full _ _ _ _ _).trans ?_
    rw [View.readAt_rep_full]
  iexists _; isplitr
  swap; · iexact HS1
  ipureintro
  unfold run_new.sl.HS1_1
  refine (View.read_writes_full _ _ _ _ _).trans ?_
  rw [View.readAt_rep_full]

set_option maxHeartbeats 8000000 in
/-- A valid block whose expert is the one before's: the kept weight blocks are used as they are. -/
theorem run_keep (c : Dev nD) (i : grid0.Coords) (arg4 : Memref sig .tc .vmem S256x2048 .bf16) (harg4 : arg4.IsWhole)
    (arg5 : Memref sig .tc .vmem S1x2048x512 .f32) (harg5 : arg5.IsWhole) (arg6 : Memref sig .tc .vmem S1x2048x512 .f32) (harg6 : arg6.IsWhole)
    (arg7 : Memref sig .tc .vmem S1x1x512 .f32) (harg7 : arg7.IsWhole) (arg8 : Memref sig .tc .vmem S1x1x512 .f32) (harg8 : arg8.IsWhole)
    (arg9 : Memref sig .tc .vmem S256x512 .bf16) (harg9 : arg9.IsWhole)
    (T0 : S160.Idx → Elt F .i32) (T1 : S1.Idx → Elt F .i32)
    (x : Vec F S256x2048 .bf16) (w0 w1 : Vec F S1x2048x512 .f32) (b0 b1 : Vec F S1x1x512 .f32) (a0 a1 : Vec F S2048x512 .bf16)
    (k0_h1 : k0_cond1 i (wCount T1) = 1#1) (hc1 : ¬(wNew i T0 = 1#1)) (k0_h3 : ¬(k0_cond3 i (wCount T1) = 1#1))
    (K : PUnit → sProp 𝕄) :
    iprop((arg4.view.loc (c : Thread nD τ) ↦[arg4.view.set]{fullShare} arg4.view.rep x)
      ∗ (arg5.view.loc (c : Thread nD τ) ↦[arg5.view.set]{fullShare} arg5.view.rep w0)
      ∗ (arg6.view.loc (c : Thread nD τ) ↦[arg6.view.set]{fullShare} arg6.view.rep w1)
      ∗ (arg7.view.loc (c : Thread nD τ) ↦[arg7.view.set]{fullShare} arg7.view.rep b0)
      ∗ (arg8.view.loc (c : Thread nD τ) ↦[arg8.view.set]{fullShare} arg8.view.rep b1)
      ∗ (tb0.view.loc (c : Thread nD τ) ↦{fullShare.right} T0)
      ∗ (tb1.view.loc (c : Thread nD τ) ↦{fullShare.right} T1)
      ∗ (∃ d, owns (c : Thread nD τ) arg9 fullShare d)
      ∗ (sc0.view.loc (c : Thread nD τ) ↦[sc0.view.set]{fullShare} sc0.view.rep a0)
      ∗ (sc1.view.loc (c : Thread nD τ) ↦[sc1.view.set]{fullShare} sc1.view.rep a1)
      ∗ (iprop((arg4.view.loc (c : Thread nD τ) ↦[arg4.view.set]{fullShare} arg4.view.rep x)
          ∗ (arg5.view.loc (c : Thread nD τ) ↦[arg5.view.set]{fullShare} arg5.view.rep w0)
          ∗ (arg6.view.loc (c : Thread nD τ) ↦[arg6.view.set]{fullShare} arg6.view.rep w1)
          ∗ (arg7.view.loc (c : Thread nD τ) ↦[arg7.view.set]{fullShare} arg7.view.rep b0)
          ∗ (arg8.view.loc (c : Thread nD τ) ↦[arg8.view.set]{fullShare} arg8.view.rep b1)
          ∗ (tb0.view.loc (c : Thread nD τ) ↦{fullShare.right} T0)
          ∗ (tb1.view.loc (c : Thread nD τ) ↦{fullShare.right} T1)
          ∗ owns (c : Thread nD τ) arg9 fullShare (outOf x a0 a1 b0 b1)
          ∗ (sc0.view.loc (c : Thread nD τ) ↦[sc0.view.set]{fullShare} sc0.view.rep a0)
          ∗ (sc1.view.loc (c : Thread nD τ) ↦[sc1.view.set]{fullShare} sc1.view.rep a1)) -∗ K ⟨⟩))
      ⊢ wp frame (wpE (defs₀ (F := F)) Variants.none c none) Set.univ
          (cc0_moe_gate_up i tb0 (Memref.isWhole_whole _) tb1 (Memref.isWhole_whole _) arg4 harg4 arg5 harg5 arg6 harg6 arg7 harg7 arg8 harg8
            arg9 harg9 sc0 (Memref.isWhole_whole _) sc1 (Memref.isWhole_whole _)) K := by
  unfold owns
  rw [cc0_moe_gate_up_eq_skeleton]; unfold cc0_moe_gate_up_skel
  rw [k0_part1_eq_skeleton]; unfold k0_part1_skel
  iintro ⟨H0, H1, H2, H3, H4, HT0, HT1, ⟨%d5, %f5, -, H5⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = k0_cond1 _ _ = _; exact k0_h1) | (guard_target = ¬(Scalar.cmpi = _); exact hc1) | (guard_target = ¬(k0_cond3 _ _ = _); exact k0_h3) | exact hc1)
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [H5]
  · iexists _; isplitr
    swap; · iexact H5
    ipureintro
    unfold run_keep.sl.H5_1 outOf
    refine (View.read_writes_full _ _ _ _ _).trans ?_
    rw [View.readAt_rep_full, View.readAt_rep_full, View.readAt_rep_full, View.readAt_rep_full, View.readAt_rep_full]
  isplitl [HS0]; · iexact HS0
  iexact HS1

set_option maxHeartbeats 8000000 in
/-- A block past the valid ones: the output block is zeros, the kept weight blocks are left. -/
theorem run_past (c : Dev nD) (i : grid0.Coords) (arg4 : Memref sig .tc .vmem S256x2048 .bf16) (harg4 : arg4.IsWhole)
    (arg5 : Memref sig .tc .vmem S1x2048x512 .f32) (harg5 : arg5.IsWhole) (arg6 : Memref sig .tc .vmem S1x2048x512 .f32) (harg6 : arg6.IsWhole)
    (arg7 : Memref sig .tc .vmem S1x1x512 .f32) (harg7 : arg7.IsWhole) (arg8 : Memref sig .tc .vmem S1x1x512 .f32) (harg8 : arg8.IsWhole)
    (arg9 : Memref sig .tc .vmem S256x512 .bf16) (harg9 : arg9.IsWhole)
    (T0 : S160.Idx → Elt F .i32) (T1 : S1.Idx → Elt F .i32)
    (x : Vec F S256x2048 .bf16) (w0 w1 : Vec F S1x2048x512 .f32) (b0 b1 : Vec F S1x1x512 .f32) (a0 a1 : Vec F S2048x512 .bf16)
    (k0_h1 : ¬(k0_cond1 i (wCount T1) = 1#1)) (k0_h3 : k0_cond3 i (wCount T1) = 1#1)
    (K : PUnit → sProp 𝕄) :
    iprop((arg4.view.loc (c : Thread nD τ) ↦[arg4.view.set]{fullShare} arg4.view.rep x)
      ∗ (arg5.view.loc (c : Thread nD τ) ↦[arg5.view.set]{fullShare} arg5.view.rep w0)
      ∗ (arg6.view.loc (c : Thread nD τ) ↦[arg6.view.set]{fullShare} arg6.view.rep w1)
      ∗ (arg7.view.loc (c : Thread nD τ) ↦[arg7.view.set]{fullShare} arg7.view.rep b0)
      ∗ (arg8.view.loc (c : Thread nD τ) ↦[arg8.view.set]{fullShare} arg8.view.rep b1)
      ∗ (tb0.view.loc (c : Thread nD τ) ↦{fullShare.right} T0)
      ∗ (tb1.view.loc (c : Thread nD τ) ↦{fullShare.right} T1)
      ∗ (∃ d, owns (c : Thread nD τ) arg9 fullShare d)
      ∗ (sc0.view.loc (c : Thread nD τ) ↦[sc0.view.set]{fullShare} sc0.view.rep a0)
      ∗ (sc1.view.loc (c : Thread nD τ) ↦[sc1.view.set]{fullShare} sc1.view.rep a1)
      ∗ (iprop((arg4.view.loc (c : Thread nD τ) ↦[arg4.view.set]{fullShare} arg4.view.rep x)
          ∗ (arg5.view.loc (c : Thread nD τ) ↦[arg5.view.set]{fullShare} arg5.view.rep w0)
          ∗ (arg6.view.loc (c : Thread nD τ) ↦[arg6.view.set]{fullShare} arg6.view.rep w1)
          ∗ (arg7.view.loc (c : Thread nD τ) ↦[arg7.view.set]{fullShare} arg7.view.rep b0)
          ∗ (arg8.view.loc (c : Thread nD τ) ↦[arg8.view.set]{fullShare} arg8.view.rep b1)
          ∗ (tb0.view.loc (c : Thread nD τ) ↦{fullShare.right} T0)
          ∗ (tb1.view.loc (c : Thread nD τ) ↦{fullShare.right} T1)
          ∗ owns (c : Thread nD τ) arg9 fullShare (k0_pay2 (F := F))
          ∗ (sc0.view.loc (c : Thread nD τ) ↦[sc0.view.set]{fullShare} sc0.view.rep a0)
          ∗ (sc1.view.loc (c : Thread nD τ) ↦[sc1.view.set]{fullShare} sc1.view.rep a1)) -∗ K ⟨⟩))
      ⊢ wp frame (wpE (defs₀ (F := F)) Variants.none c none) Set.univ
          (cc0_moe_gate_up i tb0 (Memref.isWhole_whole _) tb1 (Memref.isWhole_whole _) arg4 harg4 arg5 harg5 arg6 harg6 arg7 harg7 arg8 harg8
            arg9 harg9 sc0 (Memref.isWhole_whole _) sc1 (Memref.isWhole_whole _)) K := by
  unfold owns
  rw [cc0_moe_gate_up_eq_skeleton]; unfold cc0_moe_gate_up_skel
  rw [k0_part1_eq_skeleton]; unfold k0_part1_skel
  iintro ⟨H0, H1, H2, H3, H4, HT0, HT1, ⟨%d5, %f5, -, H5⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = ¬(k0_cond1 _ _ = _); exact k0_h1) | (guard_target = k0_cond3 _ _ = _; exact k0_h3))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [H5]
  · iexists _; isplitr
    swap; · iexact H5
    ipureintro
    exact View.read_writes_full _ _ _ _ _
  isplitl [HS0]; · iexact HS0
  iexact HS1

end Cert.Gate

end
-- ==== Proof.Gate.Body.lean ====
/-
  The gate-and-up kernel's 640 grid points with the contents given point by point: a valid block's output is computed from
  its own rows, its expert's two weight blocks (rounded) and its two bias rows, whether the weight blocks were taken at this
  point or kept from an earlier one of the same expert; a block past the valid ones is zeros.
-/
module

public import proofs.«01_k».proof.Proof.Gate.Run

@[expose] public section

set_option maxRecDepth 16384

noncomputable section

namespace Cert.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-- The two tables' contents. -/
abbrev tab0 : S160.Idx → Elt F .i32 := a.1 0
abbrev tab1 : S1.Idx → Elt F .i32 := a.1 1

abbrev cfgA : Pipeline.Cfg sig Λ₀ := cfg0 (F := F) a

/-- A point's coordinates: the column block, then the row block. -/
abbrev crd (t : Fin (cfgA a).N) : grid0.Coords := (cfgA a).grid.coords t

/-- The arrays as the region finds them, after the host operations. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

abbrev ms0 (t : Fin (cfgA a).N) : Memref sig .tc .vmem S256x2048 .bf16 := spec0_0.stage ((cfgA a).slots t (0 : Fin 6))
abbrev hs0 (t : Fin (cfgA a).N) : (ms0 a t).IsWhole := hstage0_0 (((cfgA a).slots t (0 : Fin 6)).cast nbuf0_0)
abbrev ms1 (t : Fin (cfgA a).N) : Memref sig .tc .vmem S1x2048x512 .f32 := spec0_1.stage ((cfgA a).slots t (1 : Fin 6))
abbrev hs1 (t : Fin (cfgA a).N) : (ms1 a t).IsWhole := hstage0_1 (((cfgA a).slots t (1 : Fin 6)).cast nbuf0_1)
abbrev ms2 (t : Fin (cfgA a).N) : Memref sig .tc .vmem S1x2048x512 .f32 := spec0_2.stage ((cfgA a).slots t (2 : Fin 6))
abbrev hs2 (t : Fin (cfgA a).N) : (ms2 a t).IsWhole := hstage0_2 (((cfgA a).slots t (2 : Fin 6)).cast nbuf0_2)
abbrev ms3 (t : Fin (cfgA a).N) : Memref sig .tc .vmem S1x1x512 .f32 := spec0_3.stage ((cfgA a).slots t (3 : Fin 6))
abbrev hs3 (t : Fin (cfgA a).N) : (ms3 a t).IsWhole := hstage0_3 (((cfgA a).slots t (3 : Fin 6)).cast nbuf0_3)
abbrev ms4 (t : Fin (cfgA a).N) : Memref sig .tc .vmem S1x1x512 .f32 := spec0_4.stage ((cfgA a).slots t (4 : Fin 6))
abbrev hs4 (t : Fin (cfgA a).N) : (ms4 a t).IsWhole := hstage0_4 (((cfgA a).slots t (4 : Fin 6)).cast nbuf0_4)
abbrev ms5 (t : Fin (cfgA a).N) : Memref sig .tc .vmem S256x512 .bf16 := spec0_5.stage ((cfgA a).slots t (5 : Fin 6))
abbrev hs5 (t : Fin (cfgA a).N) : (ms5 a t).IsWhole := hstage0_5 (((cfgA a).slots t (5 : Fin 6)).cast nbuf0_5)

/-- A window's block at a point, read off its array. -/
def iblk (c : Dev nD) (w : Fin (cfgA a).W) (t : Fin (cfgA a).N) : (((cfgA a).win w).xblock (crd a t)).Idx → Elt F ((cfgA a).win w).elt :=
  (((cfgA a).win w).blk t).view.read (Elt F) (V m c (Pipeline.arrRef spec0 w))

/-- Whether a point's block is a valid one. -/
abbrev valid (t : Fin (cfgA a).N) : Prop := k0_cond1 (crd a t) (wCount (tab1 a)) = 1#1

/-- The two weight blocks of a point, rounded. -/
def wgt0 (c : Dev nD) (t : Fin (cfgA a).N) : Vec F S2048x512 .bf16 := k0_pay3 (iblk m a c (1 : Fin 6) t)
def wgt1 (c : Dev nD) (t : Fin (cfgA a).N) : Vec F S2048x512 .bf16 := k0_pay4 (iblk m a c (2 : Fin 6) t)

/-- What the output's block holds after a point. -/
def outAt (c : Dev nD) (t : Fin (cfgA a).N) : Vec F S256x512 .bf16 :=
  if valid a t then outOf (iblk m a c (0 : Fin 6) t) (wgt0 m a c t) (wgt1 m a c t) (iblk m a c (3 : Fin 6) t) (iblk m a c (4 : Fin 6) t)
  else k0_pay2 (F := F)

/-- What is known of the kept blocks before point `n`: after a valid point they are that point's. -/
def kept (c : Dev nD) (n : ℕ) (a0 a1 : Vec F S2048x512 .bf16) : Prop :=
  ∀ t : Fin (cfgA a).N, n = t.val + 1 → valid a t → a0 = wgt0 m a c t ∧ a1 = wgt1 m a c t

/-- What holds between points: the kept blocks, the generator's register, and the tables. -/
def inv (c : Dev nD) (n : ℕ) : sProp 𝕄 :=
  iprop((∃ a0 a1, ⌜kept m a c n a0 a1⌝ ∗ owns (c : Thread nD τ) sc0 fullShare a0 ∗ owns (c : Thread nD τ) sc1 fullShare a1)
    ∗ (∃ r, prngReg c r)
    ∗ (tb0.view.loc (c : Thread nD τ) ↦{fullShare.right} tab0 a) ∗ (tb1.view.loc (c : Thread nD τ) ↦{fullShare.right} tab1 a))

/-- The contents at every point. -/
def dats (_ : Fin 1) (c : Dev nD) : Dat τ (Elt F) Unit ℕ (UR sig nD τ) ℕ (cfgA a) c where
  A w := V m c (Pipeline.arrRef spec0 w)
  after w t := match w with
    | ⟨0, _⟩ => iblk m a c (0 : Fin 6) t
    | ⟨1, _⟩ => iblk m a c (1 : Fin 6) t
    | ⟨2, _⟩ => iblk m a c (2 : Fin 6) t
    | ⟨3, _⟩ => iblk m a c (3 : Fin 6) t
    | ⟨4, _⟩ => iblk m a c (4 : Fin 6) t
    | ⟨5, _⟩ => outAt m a c t
  Φ t := inv m a c t.val
  q w := Pipeline.shareOf spec0 w
  owed _ := 0

theorem holds_0 (c : Dev nD) (t : Fin (cfgA a).N) : (dats m a 0 c).after (0 : Fin 6) t = iblk m a c (0 : Fin 6) t := rfl
theorem holds_1 (c : Dev nD) (t : Fin (cfgA a).N) : (dats m a 0 c).after (1 : Fin 6) t = iblk m a c (1 : Fin 6) t := rfl
theorem holds_2 (c : Dev nD) (t : Fin (cfgA a).N) : (dats m a 0 c).after (2 : Fin 6) t = iblk m a c (2 : Fin 6) t := rfl
theorem holds_3 (c : Dev nD) (t : Fin (cfgA a).N) : (dats m a 0 c).after (3 : Fin 6) t = iblk m a c (3 : Fin 6) t := rfl
theorem holds_4 (c : Dev nD) (t : Fin (cfgA a).N) : (dats m a 0 c).after (4 : Fin 6) t = iblk m a c (4 : Fin 6) t := rfl
theorem holds_5 (c : Dev nD) (t : Fin (cfgA a).N) : (dats m a 0 c).after (5 : Fin 6) t = outAt m a c t := rfl

theorem found_0 (c : Dev nD) (t : Fin (cfgA a).N) (d) : (dats m a 0 c).before (0 : Fin 6) t d = iblk m a c (0 : Fin 6) t :=
  ((dats m a 0 c).before_in_eq_fetched (0 : Fin 6) rfl (fun _ => rfl) (fun _ _ _ => rfl)
    (fun t => by rw [holds_0]; unfold Dat.blockOf iblk; rfl) t d).trans (by unfold Dat.fetched Dat.blockOf iblk; rfl)
theorem found_1 (c : Dev nD) (t : Fin (cfgA a).N) (d) : (dats m a 0 c).before (1 : Fin 6) t d = iblk m a c (1 : Fin 6) t :=
  ((dats m a 0 c).before_in_eq_fetched (1 : Fin 6) rfl (fun _ => rfl) (fun _ _ _ => rfl)
    (fun t => by rw [holds_1]; unfold Dat.blockOf iblk; rfl) t d).trans (by unfold Dat.fetched Dat.blockOf iblk; rfl)
theorem found_2 (c : Dev nD) (t : Fin (cfgA a).N) (d) : (dats m a 0 c).before (2 : Fin 6) t d = iblk m a c (2 : Fin 6) t :=
  ((dats m a 0 c).before_in_eq_fetched (2 : Fin 6) rfl (fun _ => rfl) (fun _ _ _ => rfl)
    (fun t => by rw [holds_2]; unfold Dat.blockOf iblk; rfl) t d).trans (by unfold Dat.fetched Dat.blockOf iblk; rfl)
theorem found_3 (c : Dev nD) (t : Fin (cfgA a).N) (d) : (dats m a 0 c).before (3 : Fin 6) t d = iblk m a c (3 : Fin 6) t :=
  ((dats m a 0 c).before_in_eq_fetched (3 : Fin 6) rfl (fun _ => rfl) (fun _ _ _ => rfl)
    (fun t => by rw [holds_3]; unfold Dat.blockOf iblk; rfl) t d).trans (by unfold Dat.fetched Dat.blockOf iblk; rfl)
theorem found_4 (c : Dev nD) (t : Fin (cfgA a).N) (d) : (dats m a 0 c).before (4 : Fin 6) t d = iblk m a c (4 : Fin 6) t :=
  ((dats m a 0 c).before_in_eq_fetched (4 : Fin 6) rfl (fun _ => rfl) (fun _ _ _ => rfl)
    (fun t => by rw [holds_4]; unfold Dat.blockOf iblk; rfl) t d).trans (by unfold Dat.fetched Dat.blockOf iblk; rfl)

/-! ## The decisions at a point -/

theorem boolWord (b : Bool) : (Scalar.cmpi .ne (Scalar.extui (BitVec.ofBool b) : BitVec 32) 0#32 = 1#1) ↔ b = true := by
  cases b <;> decide

theorem orWord (p q : Bool) : Scalar.cmpi .ne (Scalar.extui (Scalar.ori (BitVec.ofBool p) (BitVec.ofBool q)) : BitVec 32) 0#32
    = Scalar.cmpi .ne (Scalar.extui (BitVec.ofBool (p || q)) : BitVec 32) 0#32 := by
  cases p <;> cases q <;> rfl

theorem cond1_iff (i : grid0.Coords) (v : BitVec 32) : k0_cond1 i v = 1#1 ↔ (BitVec.ofNat 32 (i 1).val).slt v = true :=
  boolWord _

theorem cond3_iff (i : grid0.Coords) (v : BitVec 32) : k0_cond3 i v = 1#1 ↔ ¬(k0_cond1 i v = 1#1) := by
  rw [cond1_iff]
  refine (boolWord (v.sle (BitVec.ofNat 32 (i 1).val))).trans ?_
  rw [BitVec.sle_iff_toInt_le, BitVec.slt_iff_toInt_lt]
  omega

/-- The output's window is stored at every point. -/
theorem live (t : Fin (cfgA a).N) : (cfgA a).idle (5 : Fin 6) ((cfgA a).grid.coords t) = false := by
  show (!(k0_cond1 (crd a t) (a.1.atD 1 ![0]) == 1#1) && !(k0_cond3 (crd a t) (a.1.atD 1 ![0]) == 1#1)) = false
  by_cases h : k0_cond1 (crd a t) (a.1.atD 1 ![0]) = 1#1
  · rw [h]; rfl
  · rw [(cond3_iff _ _).mpr h, Bool.and_eq_false_iff]; exact .inr rfl

theorem coord_lt (i : grid0.Coords) : (i 1).val < 160 := (i 1).isLt

theorem coord_word (i : grid0.Coords) : (BitVec.ofNat 32 (i 1).val).toNat = (i 1).val := by
  have := coord_lt i
  rw [BitVec.toNat_ofNat, Nat.mod_eq_of_lt (by omega)]

/-- The table's entry for a row block. -/
def at160 (b : ℕ) (h : b < 160) : S160.Idx := fun _ => ⟨b, by first | exact h | (rename_i k; match k with | ⟨0, _⟩ => exact h)⟩

theorem here_eq (i : grid0.Coords) (T0 : S160.Idx → Elt F .i32) : wHere i T0 = T0 (at160 (i 1).val (coord_lt i)) := by
  refine congrArg T0 (funext fun k => Fin.ext ?_)
  match k with
  | ⟨0, _⟩ =>
    show (BitVec.ofNat 32 (i 1).val).toNat + 1 * _ = (i 1).val
    rw [coord_word]
    rfl

theorem last_eq (i : grid0.Coords) (T0 : S160.Idx → Elt F .i32) (h : (i 1).val ≠ 0) :
    wLast i T0 = T0 (at160 ((i 1).val - 1) (by have := coord_lt i; omega)) := by
  have hlt := coord_lt i
  refine congrArg T0 (funext fun k => Fin.ext ?_)
  match k with
  | ⟨0, _⟩ =>
    show (Scalar.maxsi (Scalar.subi (BitVec.ofNat 32 (i 1).val) 1#32) 0#32 : BitVec 32).toNat + 1 * _ = (i 1).val - 1
    have e : (Scalar.subi (BitVec.ofNat 32 (i 1).val) 1#32 : BitVec 32) = BitVec.ofNat 32 ((i 1).val - 1) := by
      show BitVec.ofNat 32 (i 1).val - 1#32 = _
      apply BitVec.eq_of_toNat_eq
      rw [BitVec.toNat_sub, BitVec.toNat_ofNat, BitVec.toNat_ofNat, BitVec.toNat_ofNat]
      omega
    rw [e]
    have e2 : (Scalar.maxsi (BitVec.ofNat 32 ((i 1).val - 1)) 0#32 : BitVec 32) = BitVec.ofNat 32 ((i 1).val - 1) := by
      show (if (0#32).slt (BitVec.ofNat 32 ((i 1).val - 1)) then BitVec.ofNat 32 ((i 1).val - 1) else 0#32) = _
      split
      · rfl
      · rename_i hn
        rw [BitVec.slt_iff_toInt_lt, BitVec.toInt_eq_toNat_of_lt (x := BitVec.ofNat 32 ((i 1).val - 1)) (by rw [BitVec.toNat_ofNat]; omega),
          BitVec.toNat_ofNat, show (0#32 : BitVec 32).toInt = 0 from by decide] at hn
        have : (i 1).val - 1 = 0 := by
          simp only [Int.bmod_def] at hn
          omega
        rw [this]
    rw [e2, BitVec.toNat_ofNat]
    show _ + 1 * 0 = _
    omega

/-- Where the kept blocks are used, the point is not a column's first and its expert is the one before's. -/
theorem same_of_not_new (i : grid0.Coords) (T0 : S160.Idx → Elt F .i32) (h : ¬(wNew i T0 = 1#1)) :
    (i 1).val ≠ 0 ∧ wHere i T0 = wLast i T0 := by
  have e : wNew i T0 = Scalar.cmpi .ne (Scalar.extui (BitVec.ofBool ((BitVec.ofNat 32 (i 1).val == 0#32) || (wHere i T0 != wLast i T0))) : BitVec 32) 0#32 := by
    refine Eq.trans ?_ (orWord ((BitVec.ofNat 32 (i 1).val) == 0#32) (wHere i T0 != wLast i T0))
    rfl
  rw [e, boolWord] at h
  rw [Bool.or_eq_true, not_or] at h
  refine ⟨fun hz => h.1 ?_, ?_⟩
  · rw [hz]; rfl
  · by_contra hne
    exact h.2 (bne_iff_ne.mpr hne)

end Cert.Gate

end
-- ==== Proof.Gate.Point.lean ====
/-
  The body at each of the 640 points, and the run of the whole call.
-/
module

public import proofs.«01_k».proof.Proof.Gate.Body
public import Idealize.ShloMosaic.Lib.Claim
public import Idealize.ShloMosaic.Lib.Pipeline.Quiescent

@[expose] public section

set_option maxRecDepth 16384

noncomputable section

namespace Cert.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-- The body at a point on its staging buffers. -/
abbrev bodyAt (t : Fin (cfgA a).N) : Prog (TpuEff nD τ sig (Elt F) Λ₀ .tc) PUnit :=
  cc0_moe_gate_up (crd a t) tb0 (Memref.isWhole_whole _) tb1 (Memref.isWhole_whole _) (ms0 a t) (hs0 a t) (ms1 a t) (hs1 a t) (ms2 a t) (hs2 a t)
    (ms3 a t) (hs3 a t) (ms4 a t) (hs4 a t) (ms5 a t) (hs5 a t) sc0 (Memref.isWhole_whole _) sc1 (Memref.isWhole_whole _)

/-- What the body is called with. -/
def handed (c : Dev nD) (t : Fin (cfgA a).N) : sProp 𝕄 :=
  iprop(inv m a c t.val ∗ (dats m a 0 c).owesAt () t.castSucc
    ∗ (∃ d, owns (c : Thread nD τ) (ms0 a t) fullShare ((dats m a 0 c).before (0 : Fin 6) t d))
    ∗ (∃ d, owns (c : Thread nD τ) (ms1 a t) fullShare ((dats m a 0 c).before (1 : Fin 6) t d))
    ∗ (∃ d, owns (c : Thread nD τ) (ms2 a t) fullShare ((dats m a 0 c).before (2 : Fin 6) t d))
    ∗ (∃ d, owns (c : Thread nD τ) (ms3 a t) fullShare ((dats m a 0 c).before (3 : Fin 6) t d))
    ∗ (∃ d, owns (c : Thread nD τ) (ms4 a t) fullShare ((dats m a 0 c).before (4 : Fin 6) t d))
    ∗ (∃ d, owns (c : Thread nD τ) (ms5 a t) fullShare ((dats m a 0 c).before (5 : Fin 6) t d)))

/-- What it hands back. -/
def returned (c : Dev nD) (t : Fin (cfgA a).N) : sProp 𝕄 :=
  iprop(inv m a c (t.val + 1) ∗ (dats m a 0 c).owesAt () t.castSucc
    ∗ owns (c : Thread nD τ) (ms0 a t) fullShare (iblk m a c (0 : Fin 6) t)
    ∗ owns (c : Thread nD τ) (ms1 a t) fullShare (iblk m a c (1 : Fin 6) t)
    ∗ owns (c : Thread nD τ) (ms2 a t) fullShare (iblk m a c (2 : Fin 6) t)
    ∗ owns (c : Thread nD τ) (ms3 a t) fullShare (iblk m a c (3 : Fin 6) t)
    ∗ owns (c : Thread nD τ) (ms4 a t) fullShare (iblk m a c (4 : Fin 6) t)
    ∗ owns (c : Thread nD τ) (ms5 a t) fullShare (outAt m a c t))

theorem kept_here (c : Dev nD) (t : Fin (cfgA a).N) : kept m a c (t.val + 1) (wgt0 m a c t) (wgt1 m a c t) := by
  intro t' h _
  have e : t' = t := Fin.ext (by omega)
  rw [e]; exact ⟨rfl, rfl⟩

theorem kept_past (c : Dev nD) (t : Fin (cfgA a).N) (h : ¬valid a t) (a0 a1 : Vec F S2048x512 .bf16) : kept m a c (t.val + 1) a0 a1 := by
  intro t' e hv
  rw [show t' = t from Fin.ext (by omega)] at hv
  exact absurd hv h

set_option maxHeartbeats 4000000 in
/-- The body at a valid block whose expert is new. -/
theorem body_new (c : Dev nD) (t : Fin (cfgA a).N) (hv : valid a t) (hn : wNew (crd a t) (tab0 a) = 1#1) :
    handed m a c t ⊢ wp frame (wpE (defs₀ (F := F)) Variants.none c none) Set.univ (bodyAt a t) (fun _ => returned m a c t) := by
  unfold handed returned bodyAt
  simp only [found_0, found_1, found_2, found_3, found_4]
  rw [show outAt m a c t = outOf (iblk m a c (0 : Fin 6) t) (wgt0 m a c t) (wgt1 m a c t) (iblk m a c (3 : Fin 6) t) (iblk m a c (4 : Fin 6) t) from if_pos hv]
  unfold inv
  iintro ⟨⟨⟨%a0, %a1, %hk, HS0, HS1⟩, Hg, HT0, HT1⟩, Ho, ⟨%d0, H0⟩, ⟨%d1, H1⟩, ⟨%d2, H2⟩, ⟨%d3, H3⟩, ⟨%d4, H4⟩, ⟨%d5, H5⟩⟩
  iapply (run_new c (crd a t) (ms0 a t) (hs0 a t) (ms1 a t) (hs1 a t) (ms2 a t) (hs2 a t) (ms3 a t) (hs3 a t) (ms4 a t) (hs4 a t) (ms5 a t) (hs5 a t)
    (tab0 a) (tab1 a) (iblk m a c (0 : Fin 6) t) (iblk m a c (1 : Fin 6) t) (iblk m a c (2 : Fin 6) t) (iblk m a c (3 : Fin 6) t) (iblk m a c (4 : Fin 6) t)
    hv hn (fun h => (cond3_iff _ _).mp h hv) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists _; iexact H5
  isplitl [HS0]; · iexists _; iexact HS0
  isplitl [HS1]; · iexists _; iexact HS1
  iintro ⟨H0, H1, H2, H3, H4, HT0, HT1, H5, HS0, HS1⟩
  isplitl [HS0 HS1 Hg HT0 HT1]
  · isplitl [HS0 HS1]
    · iexists _; iexists _; isplitr
      swap
      · isplitl [HS0]; · iexact HS0
        iexact HS1
      ipureintro; exact kept_here m a c t
    isplitl [Hg]; · iexact Hg
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexact H5

set_option maxHeartbeats 4000000 in
/-- The body at a valid block whose expert is the one before's. -/
theorem body_keep (c : Dev nD) (t : Fin (cfgA a).N) (hv : valid a t) (hn : ¬(wNew (crd a t) (tab0 a) = 1#1))
    (hw : ∀ a0 a1, kept m a c t.val a0 a1 → a0 = wgt0 m a c t ∧ a1 = wgt1 m a c t) :
    handed m a c t ⊢ wp frame (wpE (defs₀ (F := F)) Variants.none c none) Set.univ (bodyAt a t) (fun _ => returned m a c t) := by
  unfold handed returned bodyAt
  simp only [found_0, found_1, found_2, found_3, found_4]
  rw [show outAt m a c t = outOf (iblk m a c (0 : Fin 6) t) (wgt0 m a c t) (wgt1 m a c t) (iblk m a c (3 : Fin 6) t) (iblk m a c (4 : Fin 6) t) from if_pos hv]
  unfold inv
  iintro ⟨⟨⟨%a0, %a1, %hk, HS0, HS1⟩, Hg, HT0, HT1⟩, Ho, ⟨%d0, H0⟩, ⟨%d1, H1⟩, ⟨%d2, H2⟩, ⟨%d3, H3⟩, ⟨%d4, H4⟩, ⟨%d5, H5⟩⟩
  obtain ⟨e0, e1⟩ := hw a0 a1 hk
  subst e0 e1
  iapply (run_keep c (crd a t) (ms0 a t) (hs0 a t) (ms1 a t) (hs1 a t) (ms2 a t) (hs2 a t) (ms3 a t) (hs3 a t) (ms4 a t) (hs4 a t) (ms5 a t) (hs5 a t)
    (tab0 a) (tab1 a) (iblk m a c (0 : Fin 6) t) (iblk m a c (1 : Fin 6) t) (iblk m a c (2 : Fin 6) t) (iblk m a c (3 : Fin 6) t) (iblk m a c (4 : Fin 6) t)
    (wgt0 m a c t) (wgt1 m a c t) hv hn (fun h => (cond3_iff _ _).mp h hv) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists _; iexact H5
  isplitl [HS0]; · iapply rep_of_owns; iexact HS0
  isplitl [HS1]; · iapply rep_of_owns; iexact HS1
  iintro ⟨H0, H1, H2, H3, H4, HT0, HT1, H5, HS0, HS1⟩
  isplitl [HS0 HS1 Hg HT0 HT1]
  · isplitl [HS0 HS1]
    · iexists _; iexists _; isplitr
      swap
      · isplitl [HS0]; · iapply owns_of_rep; iexact HS0
        iapply owns_of_rep; iexact HS1
      ipureintro; exact kept_here m a c t
    isplitl [Hg]; · iexact Hg
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexact H5

set_option maxHeartbeats 4000000 in
/-- The body past the valid blocks. -/
theorem body_past (c : Dev nD) (t : Fin (cfgA a).N) (hv : ¬valid a t) :
    handed m a c t ⊢ wp frame (wpE (defs₀ (F := F)) Variants.none c none) Set.univ (bodyAt a t) (fun _ => returned m a c t) := by
  unfold handed returned bodyAt
  simp only [found_0, found_1, found_2, found_3, found_4]
  rw [show outAt m a c t = k0_pay2 (F := F) from if_neg hv]
  unfold inv
  iintro ⟨⟨⟨%a0, %a1, %hk, HS0, HS1⟩, Hg, HT0, HT1⟩, Ho, ⟨%d0, H0⟩, ⟨%d1, H1⟩, ⟨%d2, H2⟩, ⟨%d3, H3⟩, ⟨%d4, H4⟩, ⟨%d5, H5⟩⟩
  iapply (run_past c (crd a t) (ms0 a t) (hs0 a t) (ms1 a t) (hs1 a t) (ms2 a t) (hs2 a t) (ms3 a t) (hs3 a t) (ms4 a t) (hs4 a t) (ms5 a t) (hs5 a t)
    (tab0 a) (tab1 a) (iblk m a c (0 : Fin 6) t) (iblk m a c (1 : Fin 6) t) (iblk m a c (2 : Fin 6) t) (iblk m a c (3 : Fin 6) t) (iblk m a c (4 : Fin 6) t)
    a0 a1 hv ((cond3_iff _ _).mpr hv) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists _; iexact H5
  isplitl [HS0]; · iapply rep_of_owns; iexact HS0
  isplitl [HS1]; · iapply rep_of_owns; iexact HS1
  iintro ⟨H0, H1, H2, H3, H4, HT0, HT1, H5, HS0, HS1⟩
  isplitl [HS0 HS1 Hg HT0 HT1]
  · isplitl [HS0 HS1]
    · iexists a0; iexists a1; isplitr
      swap
      · isplitl [HS0]; · iapply owns_of_rep; iexact HS0
        iapply owns_of_rep; iexact HS1
      ipureintro; exact kept_past m a c t hv a0 a1
    isplitl [Hg]; · iexact Hg
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexact H5

end Cert.Gate

end
-- ==== Proof.Gate.Frame.lean ====
/-
  The run of the whole call: the index maps in words, the body at every point, the launch, and the argument arrays unchanged.
-/
module

public import proofs.«01_k».proof.Proof.Gate.Point
public import Idealize.ShloMosaic.Lib.Claim
public import Idealize.ShloMosaic.Lib.Pipeline.Quiescent

@[expose] public section

set_option maxRecDepth 16384

noncomputable section

namespace Cert.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-! ## The index maps -/

theorem column_of : ∀ t : Fin grid0.N, (grid0.coords t 0).val = t.val / 160 := by decide +kernel
theorem row_of : ∀ t : Fin grid0.N, (grid0.coords t 1).val = t.val % 160 := by decide +kernel

/-- The expert of a row block. -/
abbrev expertAt (T0 : S160.Idx → Elt F .i32) (i : grid0.Coords) : BitVec 32 := T0 (at160 (i 1).val (coord_lt i))

section
variable (pf : pre0.Contents (Elt F)) (i : grid0.Coords)

theorem table_word : (pf.at 0 (Rect.unit (s := S160) ![(Scalar.indexCast (BitVec.ofNat 32 (i 1).val) : BitVec 32).toNat] S1.size (k0_off1_inb i)) numel1_S1 : BitVec 32)
    = expertAt (pf 0) i := by
  refine congrArg (pf 0) (funext fun k => Fin.ext ?_)
  match k with
  | ⟨0, _⟩ =>
    show (BitVec.ofNat 32 (i 1).val).toNat + 1 * _ = (i 1).val
    rw [coord_word]
    rfl

/-- The count of valid blocks. -/
abbrev countOf : BitVec 32 := pf.at 1 (Rect.unit (s := S1) ![0] S1.size inb_S1_S1_0) numel1_S1

theorem col_lt : (i 0).val < 4 := (i 0).isLt

theorem col_word : (BitVec.ofNat 32 (i 0).val).toNat = (i 0).val := by
  have := col_lt i
  rw [BitVec.toNat_ofNat, Nat.mod_eq_of_lt (by omega)]

theorem col_word4 : (Scalar.addi 4#32 (BitVec.ofNat 32 (i 0).val) : BitVec 32).toNat = 4 + (i 0).val := by
  have := col_lt i
  show (4#32 + BitVec.ofNat 32 (i 0).val).toNat = _
  rw [BitVec.toNat_add, BitVec.toNat_ofNat, BitVec.toNat_ofNat]
  omega

theorem map_0 : cc0_transform_0 inb_S1_S1_0 numel1_S1 pf i
    = ![(Scalar.minsi (BitVec.ofNat 32 (i 1).val) (Scalar.subi (countOf pf) 1#32) : BitVec 32).toNat, 0] := rfl

theorem map_1 : cc0_transform_1 k0_off1_inb numel1_S1 pf i = ![(expertAt (pf 0) i).toNat, 0, (i 0).val] := by
  exact congrArg₂ (fun (w : ℕ) (j : ℕ) => (![w, 0, j] : Fin 3 → ℕ)) (congrArg BitVec.toNat (table_word pf i)) (col_word i)
theorem map_2 : cc0_transform_2 k0_off1_inb numel1_S1 pf i = ![(expertAt (pf 0) i).toNat, 0, 4 + (i 0).val] := by
  exact congrArg₂ (fun (w : ℕ) (j : ℕ) => (![w, 0, j] : Fin 3 → ℕ)) (congrArg BitVec.toNat (table_word pf i)) (col_word4 i)
theorem map_3 : cc0_transform_3 k0_off1_inb numel1_S1 pf i = ![(expertAt (pf 0) i).toNat, 0, (i 0).val] := by
  exact congrArg₂ (fun (w : ℕ) (j : ℕ) => (![w, 0, j] : Fin 3 → ℕ)) (congrArg BitVec.toNat (table_word pf i)) (col_word i)
theorem map_4 : cc0_transform_4 k0_off1_inb numel1_S1 pf i = ![(expertAt (pf 0) i).toNat, 0, 4 + (i 0).val] := by
  exact congrArg₂ (fun (w : ℕ) (j : ℕ) => (![w, 0, j] : Fin 3 → ℕ)) (congrArg BitVec.toNat (table_word pf i)) (col_word4 i)
theorem map_5 : cc0_transform_5 i = ![(i 1).val, (i 0).val] := by
  unfold cc0_transform_5
  simp only [coord_word, col_word]

end

/-! ## Kept weight blocks are the point's own -/

theorem same_block_1 (c : Dev nD) (t t' : Fin (cfgA a).N)
    (h : cc0_transform_1 k0_off1_inb numel1_S1 a.1 (crd a t) = cc0_transform_1 k0_off1_inb numel1_S1 a.1 (crd a t')) :
    (iblk m a c (1 : Fin 6) t : Vec F S1x2048x512 .f32) = iblk m a c (1 : Fin 6) t' := by
  funext q
  unfold iblk
  rw [View.read_apply, View.read_apply]
  refine congrArg (V m c main_v0) (funext fun k => Fin.ext ?_)
  show cc0_transform_1 k0_off1_inb numel1_S1 a.1 (crd a t) k * S1x2048x512.size k + 1 * (q k).val
    = cc0_transform_1 k0_off1_inb numel1_S1 a.1 (crd a t') k * S1x2048x512.size k + 1 * (q k).val
  rw [h]

theorem same_block_2 (c : Dev nD) (t t' : Fin (cfgA a).N)
    (h : cc0_transform_2 k0_off1_inb numel1_S1 a.1 (crd a t) = cc0_transform_2 k0_off1_inb numel1_S1 a.1 (crd a t')) :
    (iblk m a c (2 : Fin 6) t : Vec F S1x2048x512 .f32) = iblk m a c (2 : Fin 6) t' := by
  funext q
  unfold iblk
  rw [View.read_apply, View.read_apply]
  refine congrArg (V m c main_v0) (funext fun k => Fin.ext ?_)
  show cc0_transform_2 k0_off1_inb numel1_S1 a.1 (crd a t) k * S1x2048x512.size k + 1 * (q k).val
    = cc0_transform_2 k0_off1_inb numel1_S1 a.1 (crd a t') k * S1x2048x512.size k + 1 * (q k).val
  rw [h]

/-- Where the expert is the one before's, the blocks kept from the point before are this point's own. -/
theorem kept_use (c : Dev nD) (t : Fin (cfgA a).N) (hv : valid a t) (hn : ¬(wNew (crd a t) (tab0 a) = 1#1)) (a0 a1 : Vec F S2048x512 .bf16)
    (hk : kept m a c t.val a0 a1) : a0 = wgt0 m a c t ∧ a1 = wgt1 m a c t := by
  obtain ⟨hb, hs⟩ := same_of_not_new (crd a t) (tab0 a) hn
  rw [here_eq, last_eq _ _ hb] at hs
  have r1 : (crd a t 1).val = t.val % 160 := row_of t
  have c1 : (crd a t 0).val = t.val / 160 := column_of t
  have hN : t.val < 640 := lt_of_lt_of_eq t.isLt (show (cfgA a).N = 640 from N_0)
  let t' : Fin (cfgA a).N := ⟨t.val - 1, by have := t.isLt; omega⟩
  have r2 : (crd a t' 1).val = (t.val - 1) % 160 := row_of t'
  have c2 : (crd a t' 0).val = (t.val - 1) / 160 := column_of t'
  have hb' : t.val % 160 ≠ 0 := r1 ▸ hb
  have hr : (crd a t' 1).val = (crd a t 1).val - 1 := by omega
  have hc : (crd a t' 0).val = (crd a t 0).val := by omega
  have hx : expertAt (a.1 0) (crd a t') = expertAt (a.1 0) (crd a t) := by
    refine Eq.trans ?_ hs.symm
    refine congrArg (tab0 a) (funext fun k => Fin.ext ?_)
    match k with
    | ⟨0, _⟩ => exact hr
  have hv' : valid a t' := by
    have h1 := (cond1_iff _ _).mp hv
    refine (cond1_iff _ _).mpr ?_
    rw [BitVec.slt_iff_toInt_lt] at h1 ⊢
    have q1 := coord_lt (crd a t)
    rw [BitVec.toInt_eq_toNat_of_lt (by rw [BitVec.toNat_ofNat]; omega), BitVec.toNat_ofNat] at h1 ⊢
    omega
  obtain ⟨e0, e1⟩ := hk t' (by show t.val = t.val - 1 + 1; omega) hv'
  have b1 := same_block_1 m a c t' t (by rw [map_1, map_1, hx, hc])
  have b2 := same_block_2 m a c t' t (by rw [map_2, map_2, hx, hc])
  refine ⟨e0.trans ?_, e1.trans ?_⟩
  · exact congrArg k0_pay3 b1
  · exact congrArg k0_pay4 b2

theorem body_any (c : Dev nD) (t : Fin (cfgA a).N) :
    handed m a c t ⊢ wp frame (wpE (defs₀ (F := F)) Variants.none c none) Set.univ (bodyAt a t) (fun _ => returned m a c t) := by
  by_cases hv : valid a t
  · by_cases hn : wNew (crd a t) (tab0 a) = 1#1
    · exact body_new m a c t hv hn
    · exact body_keep m a c t hv hn (kept_use m a c t hv hn)
  · exact body_past m a c t hv

theorem row_eq (t : Fin (cfgA a).N) : defs₀ (F := F) .tc (cfgA a).body ((cfgA a).bodyArgs t ((cfgA a).slots t)) = bodyAt a t := by
  unfold defs₀; rw [Defs.onTc_tc]

theorem phi_eq (c : Dev nD) (t : Fin ((cfgA a).N + 1)) : (dats m a 0 c).Φ t = inv m a c t.val := rfl
theorem owes_eq (c : Dev nD) (t : Fin (cfgA a).N) : (dats m a 0 c).owesAt () t.succ = (dats m a 0 c).owesAt () t.castSucc := rfl

set_option maxHeartbeats 400000 in
theorem sound (c : Dev nD) (t : Fin (cfgA a).N) :
    iprop((dats m a 0 c).Φ t.castSucc ∗ (dats m a 0 c).owesAt () t.castSucc
        ∗ (∃ d, owns (c : Thread nD τ) (ms0 a t) fullShare ((dats m a 0 c).before (0 : Fin 6) t d))
        ∗ (∃ d, owns (c : Thread nD τ) (ms1 a t) fullShare ((dats m a 0 c).before (1 : Fin 6) t d))
        ∗ (∃ d, owns (c : Thread nD τ) (ms2 a t) fullShare ((dats m a 0 c).before (2 : Fin 6) t d))
        ∗ (∃ d, owns (c : Thread nD τ) (ms3 a t) fullShare ((dats m a 0 c).before (3 : Fin 6) t d))
        ∗ (∃ d, owns (c : Thread nD τ) (ms4 a t) fullShare ((dats m a 0 c).before (4 : Fin 6) t d))
        ∗ (∃ d, owns (c : Thread nD τ) (ms5 a t) fullShare ((dats m a 0 c).before (5 : Fin 6) t d)))
      ⊢ wp frame (wpE (defs₀ (F := F)) Variants.none c none) Set.univ (bodyAt a t) fun _ =>
          iprop((dats m a 0 c).Φ t.succ ∗ (dats m a 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats m a 0 c).before w t d))
                  | true => owns (c : Thread nD τ) (((cfgA a).win w).stage ((cfgA a).slots t w)) fullShare ((dats m a 0 c).after w t)
                | false => owns (c : Thread nD τ) (((cfgA a).win w).stage ((cfgA a).slots t w)) fullShare ((dats m a 0 c).after w t)) := by
  rw [bigSep_W0]
  rewrite [live]
  have e1 : (dats m a 0 c).Φ t.succ = inv m a c (t.val + 1) := (phi_eq m a c t.succ).trans (congrArg (inv m a c) (Fin.val_succ t))
  have e2 : (dats m a 0 c).Φ t.castSucc = inv m a c t.val := (phi_eq m a c t.castSucc).trans (congrArg (inv m a c) (Fin.val_castSucc t))
  rewrite [e1, e2, owes_eq]
  simp only [holds_0, holds_1, holds_2, holds_3, holds_4, holds_5]
  have h := body_any m a c t
  unfold handed returned at h
  exact h

theorem obligation (c : Dev nD) : BodyObligation (dats m a 0 c) (defs₀ (F := F)) Variants.none () Set.univ := fun t => by
  rw [bigSep_W0]
  exact sound m a c t

/-! ## The launch -/

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

theorem rest_eq (c : Dev nD) : (Pipeline.ΦA spec0 c : sProp 𝕄)
    = iprop(((∃ d, owns (c : Thread nD τ) sc0 fullShare d) ∗ (∃ d, owns (c : Thread nD τ) sc1 fullShare d)) ∗ ∃ r, prngReg c r) := by
  unfold Pipeline.ΦA; rw [scopedRest0_eq]; simp only [sc0, sc1, owns_whole]; try rfl

theorem enter (c : Dev nD) : iprop(Pipeline.ΦA spec0 c ∗ Pipeline.ΦT pre0 a.1 c) ⊢ (dats m a 0 c).Φ 0 := by
  rw [show (dats m a 0 c).Φ 0 = inv m a c 0 from rfl, rest_eq]
  unfold Pipeline.ΦT
  rw [prefHeld_eq]
  unfold inv
  iintro ⟨⟨⟨⟨%a0, HS0⟩, ⟨%a1, HS1⟩⟩, Hg⟩, ⟨HT0, HT1⟩⟩
  isplitl [HS0 HS1]
  · iexists a0; iexists a1; isplitr
    swap
    · isplitl [HS0]; · iexact HS0
      iexact HS1
    ipureintro; intro t h; omega
  isplitl [Hg]; · iexact Hg
  isplitl [HT0]; · iexact HT0
  iexact HT1

theorem leave (c : Dev nD) : (dats m a 0 c).Φ (Fin.last (cfgA a).N) ⊢ Pipeline.ΦA spec0 c := by
  rw [show (dats m a 0 c).Φ (Fin.last (cfgA a).N) = inv m a c (cfgA a).N from rfl, rest_eq]
  unfold inv
  iintro ⟨⟨%a0, %a1, -, HS0, HS1⟩, Hg, -, -⟩
  isplitl [HS0 HS1]
  · isplitl [HS0]; · iexists _; iexact HS0
    iexists _; iexact HS1
  iexact Hg

/-- No host operation writes an argument. -/
theorem keeps_0 (c : Dev nD) : V m c main_arg0 = m ((c.tc : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem keeps_1 (c : Dev nD) : V m c main_arg1 = m ((c.tc : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem keeps_2 (c : Dev nD) : V m c main_arg2 = m ((c.tc : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem keeps_3 (c : Dev nD) : V m c main_arg3 = m ((c.tc : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem keeps_4 (c : Dev nD) : V m c main_arg4 = m ((c.tc : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- The tables the pipeline runs at are the memory's. -/
def Holds : Prop := ∀ (c : Dev nD) (k : Fin 2), m ((c.tc : Thread nD τ).loc (pre0.ref k)) = a.1 k

theorem tables_held (h : Holds m a) (c : Dev nD) (k : Fin 2) : V m c (pre0.ref k) = a.1 k := by
  refine Eq.trans ?_ (h c k)
  match k with
  | ⟨0, _⟩ => exact keeps_0 m c
  | ⟨1, _⟩ => exact keeps_1 m c

set_option backward.isDefEq.respectTransparency.types false in
/-- The launch: every array ends at what the point-by-point contents say, every semaphore counter at zero. -/
theorem launched (h : Holds m a) : θ_run defs (onTc (τ := τ) (main (F := F))) (s₀ m ρ)
    (fun r => (Pipeline.FramePost (Pipeline.pin (pcfgs (F := F)) fun _ => a) (dats m a) 0 (V m)) r ∧ r.2.sem = fun _ => 0) :=
  Pipeline.θ_run_frameP_track_shared (Q' := _) pcfgs (fun _ => a) (dats m a) (0 : Fin 1) launch₀0 defs₀ Variants.none m ρ main
    (hbody := fun c => (obligation m a c).loose) (hq := fun _ _ _ => rfl) (howed := fun _ _ => rfl) (V := V m)
    (hmain := Pipeline.hmainP_prefix pcfgs 0 defs₀ Variants.none m main hostOps0 hostOps0_sub host_fresh main_chain)
    (hA := fun _ _ => rfl) (hpf := tables_held m a h) (hin := enter m a) (hout := leave m a)

/-- The frame: the argument arrays end unchanged and every counter is zero. -/
theorem framed (h : Holds m a) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c =>
    ⟨((hr.1 c).2 main_arg0 (Pipeline.mem_restRefs_of main_arg0 (by decide) (by decide : ∀ w : Fin 6, (spec0 w).arr.view.ref ≠ main_arg0))).trans (keeps_0 m c),
     ((hr.1 c).2 main_arg1 (Pipeline.mem_restRefs_of main_arg1 (by decide) (by decide : ∀ w : Fin 6, (spec0 w).arr.view.ref ≠ main_arg1))).trans (keeps_1 m c),
     ((hr.1 c).1 (0 : Fin 6)).trans (((dats m a 0 c).arrAt_in (0 : Fin 6) rfl _).trans (keeps_2 m c)),
     ((hr.1 c).2 main_arg3 (Pipeline.mem_restRefs_of main_arg3 (by decide) (by decide : ∀ w : Fin 6, (spec0 w).arr.view.ref ≠ main_arg3))).trans (keeps_3 m c),
     ((hr.1 c).2 main_arg4 (Pipeline.mem_restRefs_of main_arg4 (by decide) (by decide : ∀ w : Fin 6, (spec0 w).arr.view.ref ≠ main_arg4))).trans (keeps_4 m c)⟩, hr.2⟩) (launched m ρ a h)

/-! ## Tables the region admits -/

/-- Experts in range and at least one valid block. -/
def Good (pf : pre0.Contents (Elt F)) : Prop :=
  (∀ b : S160.Idx, (pf 0 b : BitVec 32).toNat < 32) ∧ ∀ k : S1.Idx, 1 ≤ (pf 1 k : BitVec 32).toInt

theorem low_le (b : ℕ) (hb : b < 160) (v : BitVec 32) (h : 1 ≤ v.toInt) :
    (Scalar.minsi (BitVec.ofNat 32 b) (Scalar.subi v 1#32) : BitVec 32).toNat ≤ b := by
  show (if (BitVec.ofNat 32 b).slt (v - 1#32) then BitVec.ofNat 32 b else v - 1#32 : BitVec 32).toNat ≤ b
  split
  · rw [BitVec.toNat_ofNat]; omega
  · rename_i hn
    rw [BitVec.slt_iff_toInt_lt, BitVec.toInt_eq_toNat_cond, BitVec.toInt_eq_toNat_cond, BitVec.toNat_sub, BitVec.toNat_ofNat, BitVec.toNat_ofNat] at hn
    rw [BitVec.toInt_eq_toNat_cond] at h
    have := v.isLt
    rw [BitVec.toNat_sub, BitVec.toNat_ofNat]
    split at h <;> split at hn <;> (try split at hn) <;> omega

theorem ok_of_good (pf : pre0.Contents (Elt F)) (h : Good pf) : ok0 pf := by
  refine ⟨fun i => ?_, fun i => ?_, fun i => ?_, fun i => ?_, fun i => ?_⟩
  · have h1 := coord_lt i
    have hl := low_le (i 1).val h1 _ (show 1 ≤ (countOf pf).toInt from h.2 _)
    refine ⟨fun k => ?_, .inr (Affine.block_words_dvd (s := S40960x2048) (p := EltTy.packing .bf16) (by decide) (by decide))⟩
    rw [map_0]
    match k with
    | ⟨0, _⟩ => show ((Scalar.minsi (BitVec.ofNat 32 (i 1).val) (Scalar.subi (countOf pf) 1#32) : BitVec 32).toNat + 1) * 256 ≤ 40960; omega
    | ⟨1, _⟩ => show (0 + 1) * 2048 ≤ 2048; omega
  all_goals
    have h0 : (expertAt (pf 0) i).toNat < 32 := h.1 _
    have h1 := col_lt i
    refine ⟨fun k => ?_, .inl rfl⟩
    first | rw [map_1] | rw [map_2] | rw [map_3] | rw [map_4]
  · match k with
    | ⟨0, _⟩ => show ((expertAt (pf 0) i).toNat + 1) * 1 ≤ 32; omega
    | ⟨1, _⟩ => show (0 + 1) * 2048 ≤ 2048; omega
    | ⟨2, _⟩ => show ((i 0).val + 1) * 512 ≤ 4096; omega
  · match k with
    | ⟨0, _⟩ => show ((expertAt (pf 0) i).toNat + 1) * 1 ≤ 32; omega
    | ⟨1, _⟩ => show (0 + 1) * 2048 ≤ 2048; omega
    | ⟨2, _⟩ => show (4 + (i 0).val + 1) * 512 ≤ 4096; omega
  · match k with
    | ⟨0, _⟩ => show ((expertAt (pf 0) i).toNat + 1) * 1 ≤ 32; omega
    | ⟨1, _⟩ => show (0 + 1) * 1 ≤ 1; omega
    | ⟨2, _⟩ => show ((i 0).val + 1) * 512 ≤ 4096; omega
  · match k with
    | ⟨0, _⟩ => show ((expertAt (pf 0) i).toNat + 1) * 1 ≤ 32; omega
    | ⟨1, _⟩ => show (0 + 1) * 1 ≤ 1; omega
    | ⟨2, _⟩ => show (4 + (i 0).val + 1) * 512 ≤ 4096; omega

end Cert.Gate

end
-- ==== Proof.Gate.Tables.lean ====
/-
  What the precondition says of the two tables, and the tables a memory that satisfies it hands to the kernel.
-/
module

public import proofs.«01_k».proof.Proof.Gate.Frame
public import proofs.«01_k».proof.Proof.Gen.Pre_tables
public import Idealize.ShloMosaic.Lib.ReduceAll

@[expose] public section

set_option maxRecDepth 16384

noncomputable section

namespace Cert.Gate

open Cert.KernelIdeal Cert.KernelIdeal.Gen
open Idealize.ShloMosaic Idealize.ShloMosaic.TcCoe Idealize.SL.Sem

variable {F : FTy → Type} [FloatOps F]

/-- The precondition, read: every expert is one of the 32, and at least one block is valid. -/
theorem ranges (T0 : IVec S160 32) (T1 : IVec S1 32) (x : FVec F S40960x2048 .bf16) (w : FVec F S1x32x2048x4096 .f32) (b : FVec F S1x32x4096 .f32)
    (h : Cert.Pre_tables.fn T0 T1 x w b = fun _ => 1#1) : (∀ i, (T0 i).toNat < 32) ∧ ∀ k, 1 ≤ (T1 k).toInt := by
  have e := congrFun h (fun a => a.elim0)
  unfold Cert.Pre_tables.fn at e
  obtain ⟨e0, e1⟩ := IntOp.andi_eq_one.mp e
  constructor
  · intro i
    obtain ⟨l, u⟩ := IntOp.andi_eq_one.mp (Host.reduce_andi_all (t := Cert.Pre_tables.S_) _ _ _ _ _ e0 i)
    have l' : (0 : ℤ) ≤ (T0 i).toInt := IntOp.cmpi_sge.mp l
    have u' : (T0 i).toInt < 32 := IntOp.cmpi_slt.mp u
    rw [BitVec.toInt_eq_toNat_cond] at l' u'
    have := (T0 i).isLt
    split at l' <;> split at u' <;> omega
  · intro k
    have q : (1 : ℤ) ≤ (shapeCast Cert.Pre_tables.S_ T1 Cert.Pre_tables.Gen.shapeCasts_S1_S_ (fun a => a.elim0)).toInt := IntOp.cmpi_sge.mp e1
    have : shapeCast Cert.Pre_tables.S_ T1 Cert.Pre_tables.Gen.shapeCasts_S1_S_ (fun a => a.elim0) = T1 k :=
      congrArg T1 (funext fun a => match a with | ⟨0, _⟩ => Subsingleton.elim (α := Fin 1) _ _)
    rw [← this]
    exact q

variable (m : (ℓ : Loc nD τ sig) → Buf (Elt F) ℓ)

/-- The tables the memory holds. -/
def tablesOf : pre0.Contents (Elt F) := fun k => m (((0 : Dev nD).tc : Thread nD τ).loc (pre0.ref k))

/-- The tables, admitted. -/
def admitted (h : Good (tablesOf m)) : (pcfg0 (F := F)).Adm := ⟨tablesOf m, ok_of_good _ h⟩

theorem admitted_holds (h : Good (tablesOf m)) : Holds m (admitted m h) := by
  intro c k
  obtain rfl : c = 0 := Subsingleton.elim _ _
  rfl

theorem good_of (h : ∀ c : Dev nD, Cert.Pre_tables.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1) :
    Good (tablesOf m) := ranges _ _ _ _ _ (h 0)

end Cert.Gate

end
-- ==== Proof.Gate.Reference.lean ====
/-
  The gate-and-up reference at an entry, at the exact real-valued operations: a valid block's row against its expert's two
  columns, with the biases, clamped and gated; zero past the valid blocks.
-/
module

public import proofs.«01_k».proof.Proof.Gen.ReferenceIdeal.Run
public import Idealize.ShloMosaic.Lib.Pointwise

@[expose] public section

set_option maxRecDepth 16384

noncomputable section

namespace Cert.Gate

open Idealize.ShloMosaic Idealize.ShloMosaic.TcCoe

/-- A row against a column, and the bias. -/
def affine (x w : Fin 2048 → EReal) (b : EReal) : EReal := (∑ k, x k * w k) + b

/-- The gated product of the two clamped halves. -/
def gated (g l : EReal) : EReal :=
  (min (max l (Ideal.ofBits FTy.f32 0xC0E00000#32)) (Ideal.ofBits FTy.f32 0x40E00000#32) + 1) * min g (Ideal.ofBits FTy.f32 0x40E00000#32)
    * Ideal.div 1 (1 + Ideal.exp (-(Ideal.ofBits FTy.f32 0x3FD9DB23#32 * min g (Ideal.ofBits FTy.f32 0x40E00000#32))))

namespace Ref

open Cert.ReferenceIdeal Cert.ReferenceIdeal.Gen

variable (T0 : IVec S160 32) (T1 : IVec S1 32) (x : FVec Ideal S40960x2048 .bf16) (w : FVec Ideal S1x32x2048x4096 .f32) (b : FVec Ideal S1x32x4096 .f32)

/-- The experts of the blocks, as the reference looks them up. -/
def experts : IVec S160x1 32 :=
  broadcastInDim S160x1 ![0] bcast_S160_S160x1_0 (select (cmpi .slt T0 (broadcastInDim S160 ![] bcast_S_S160 (constantI S_ 32 0#32))) (addi T0 (broadcastInDim S160 ![] bcast_S_S160 (constantI S_ 32 32#32))) T0)

/-- The rows, by blocks. -/
def rows : FVec Ideal S160x256x2048 .f32 := shapeCast S160x256x2048 (extf .f32 x bitsLt_bf16_f32) shapeCasts_S40960x2048_S160x256x2048

/-- Every block's weights. -/
def weights : FVec Ideal S160x2048x4096 .f32 :=
  Host.gather gather_S32x2048x4096_S160x1_S160x2048x4096_12_0_n_n_0_1_120484096 (shapeCast S32x2048x4096 w shapeCasts_S1x32x2048x4096_S32x2048x4096) (experts T0)

/-- Every block's biases. -/
def biases : FVec Ideal S160x4096 .f32 :=
  Host.gather gather_S32x4096_S160x1_S160x4096_1_0_n_n_0_1_14096 (shapeCast S32x4096 b shapeCasts_S1x32x4096_S32x4096) (experts T0)

/-- Both halves before the activation. -/
def halves : FVec Ideal S160x256x4096 .f32 :=
  addf (Host.dotGeneral dot_S160x256x2048_S160x2048x4096_S160x256x4096_2_1_1_2_0_0 none (rows x) (weights T0 w))
    (broadcastInDim S160x256x4096 ![0, 1, 2] bcast_S160x1x4096_S160x256x4096_0_1_2 (broadcastInDim S160x1x4096 ![0, 2] bcast_S160x4096_S160x1x4096_0_2 (biases T0 b)))

/-- The first half, clamped. -/
def gate (z : FVec Ideal S160x256x4096 .f32) : FVec Ideal S160x256x2048 .f32 :=
  minimumf (extractStridedSlice S160x256x2048 ![0, 0, 0] z slices_S160x256x4096_S160x256x2048_0_0_0) (broadcastInDim S160x256x2048 ![] bcast_S_S160x256x2048 (constant S_ .f32 0x40E00000#32))

/-- The activation. -/
def act (z : FVec Ideal S160x256x4096 .f32) : FVec Ideal S160x256x2048 .f32 :=
  mulf (mulf (addf (minimumf (maximumf (extractStridedSlice S160x256x2048 ![0, 0, 2048] z slices_S160x256x4096_S160x256x2048_0_0_2048) (broadcastInDim S160x256x2048 ![] bcast_S_S160x256x2048 (constant S_ .f32 0xC0E00000#32))) (broadcastInDim S160x256x2048 ![] bcast_S_S160x256x2048 (constant S_ .f32 0x40E00000#32))) (broadcastInDim S160x256x2048 ![] bcast_S_S160x256x2048 (constant S_ .f32 0x3F800000#32))) (gate z))
    (Host.divf (broadcastInDim S160x256x2048 ![] bcast_S_S160x256x2048 (constant S_ .f32 0x3F800000#32)) (addf (broadcastInDim S160x256x2048 ![] bcast_S_S160x256x2048 (constant S_ .f32 0x3F800000#32)) (Host.exp (Host.negf (mulf (broadcastInDim S160x256x2048 ![] bcast_S_S160x256x2048 (constant S_ .f32 0x3FD9DB23#32)) (gate z))))))

/-- Which blocks are valid. -/
def used : IVec S160x256x2048 1 :=
  broadcastInDim S160x256x2048 ![0, 1, 2] bcast_S160x1x1_S160x256x2048_0_1_2 (broadcastInDim S160x1x1 ![0] bcast_S160_S160x1x1_0 (cmpi .slt (iotaInDim S160 32 0) (broadcastInDim S160 ![] bcast_S_S160 (shapeCast S_ T1 shapeCasts_S1_S_))))

/-- The result. -/
def result : FVec Ideal S40960x2048 .bf16 :=
  truncf .bf16 (shapeCast S40960x2048 (select (used T1) (act (halves T0 x w b)) (broadcastInDim S160x256x2048 ![] bcast_S_S160x256x2048 (constant S_ .f32 0x00000000#32))) shapeCasts_S160x256x2048_S40960x2048) bitsLt_bf16_f32

theorem result_eq (m : (ℓ : Loc nD τ sig) → Buf (Elt Ideal) ℓ) (c : Dev nD) :
    Cert.ReferenceIdeal.Value.res_main_v51 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

variable {α : Type}

theorem gather3 (y : S32x2048x4096.Idx → α) (i : IVec S160x1 32) (q : Fin 160) (k : Fin 2048) (l : Fin 4096) :
    Host.gather gather_S32x2048x4096_S160x1_S160x2048x4096_12_0_n_n_0_1_120484096 y i (ValueIdx.ix3 q k l)
      = y (ValueIdx.ix3 ⟨min (i (ValueIdx.ix2 q 0)).toInt.toNat 31, by omega⟩ k l) := by
  unfold Host.gather
  refine congrArg y (funext fun a => Fin.ext ?_)
  match a with
  | ⟨0, _⟩ => show min (i _).toInt.toNat 31 + 0 + 0 = min (i _).toInt.toNat 31
              refine congrArg (fun j => min (i j).toInt.toNat 31) (funext fun a => Fin.ext ?_)
              match a with
              | ⟨0, _⟩ => rfl
              | ⟨1, _⟩ => rfl
  | ⟨1, _⟩ => show 0 + 0 + k.val = k.val
              omega
  | ⟨2, _⟩ => show 0 + 0 + l.val = l.val
              omega

theorem gather2 (y : S32x4096.Idx → α) (i : IVec S160x1 32) (q : Fin 160) (l : Fin 4096) :
    Host.gather gather_S32x4096_S160x1_S160x4096_1_0_n_n_0_1_14096 y i (ValueIdx.ix2 q l)
      = y (ValueIdx.ix2 ⟨min (i (ValueIdx.ix2 q 0)).toInt.toNat 31, by omega⟩ l) := by
  unfold Host.gather
  refine congrArg y (funext fun a => Fin.ext ?_)
  match a with
  | ⟨0, _⟩ => show min (i _).toInt.toNat 31 + 0 + 0 = min (i _).toInt.toNat 31
              refine congrArg (fun j => min (i j).toInt.toNat 31) (funext fun a => Fin.ext ?_)
              match a with
              | ⟨0, _⟩ => rfl
              | ⟨1, _⟩ => rfl
  | ⟨1, _⟩ => show 0 + 0 + l.val = l.val
              omega

/-- An expert in range is looked up as it is. -/
theorem experts_entry (q : Fin 160) (e : Fin 32) (h : (T0 (ValueIdx.ix1 q)).toNat = e.val) :
    (⟨min (experts T0 (ValueIdx.ix2 q 0)).toInt.toNat 31, by omega⟩ : Fin 32) = e := by
  have he : experts T0 (ValueIdx.ix2 q 0) = Scalar.select (IntOp.cmpi .slt (T0 (ValueIdx.ix1 q)) 0#32) (T0 (ValueIdx.ix1 q) + 32#32) (T0 (ValueIdx.ix1 q)) := by
    pointwise [experts]
    try rfl
  have hi : (T0 (ValueIdx.ix1 q)).toInt = e.val := by
    have := e.isLt
    rw [BitVec.toInt_eq_toNat_of_lt (by omega), h]
  have hs : IntOp.cmpi .slt (T0 (ValueIdx.ix1 q)) 0#32 = 0#1 := by
    rcases BitVec.eq_zero_or_eq_one (IntOp.cmpi .slt (T0 (ValueIdx.ix1 q)) 0#32) with h0 | h1
    · exact h0
    · have h2 := IntOp.cmpi_slt.mp h1
      have : (0#32 : BitVec 32).toInt = 0 := by decide
      omega
  refine Fin.ext ?_
  show min (experts T0 (ValueIdx.ix2 q 0)).toInt.toNat 31 = e.val
  rw [he, hs]
  show min (T0 (ValueIdx.ix1 q)).toInt.toNat 31 = e.val
  have := e.isLt
  rw [hi]
  omega

/-- The first half's column, among both halves'. -/
def low (j : Fin 2048) : Fin 4096 := ⟨j.val, by omega⟩
/-- The second half's column. -/
def high (j : Fin 2048) : Fin 4096 := ⟨2048 + j.val, by omega⟩
/-- A block's row, among all the rows. -/
def rowOf (q : Fin 160) (p : Fin 256) : Fin 40960 := ⟨q.val * 256 + p.val, by omega⟩

theorem rows_entry (q : Fin 160) (p : Fin 256) (k : Fin 2048) : rows x (ValueIdx.ix3 q p k) = x (ValueIdx.ix2 (rowOf q p) k) := by
  pointwise [rows]
  try rfl

theorem halves_entry (q : Fin 160) (p : Fin 256) (l : Fin 4096) (e : Fin 32) (h : (T0 (ValueIdx.ix1 q)).toNat = e.val) :
    halves T0 x w b (ValueIdx.ix3 q p l)
      = affine (fun k => x (ValueIdx.ix2 (rowOf q p) k)) (fun k => w (ValueIdx.ix4 0 e k l)) (b (ValueIdx.ix3 0 e l)) := by
  have e1 : halves T0 x w b (ValueIdx.ix3 q p l)
      = (∑ k : Fin 2048, rows x (ValueIdx.ix3 q p k) * weights T0 w (ValueIdx.ix3 q k l)) + biases T0 b (ValueIdx.ix2 q l) := by
    unfold halves
    generalize rows x = z
    generalize weights T0 w = z'
    generalize biases T0 b = z''
    pointwise
    try rfl
  rw [e1]
  unfold affine
  have e2 : biases T0 b (ValueIdx.ix2 q l) = b (ValueIdx.ix3 0 e l) := by
    unfold biases
    rw [gather2, experts_entry T0 q e h]
    pointwise
    try rfl
  rw [e2]
  refine congrArg (· + _) (Finset.sum_congr rfl fun k _ => ?_)
  rw [rows_entry]
  refine congrArg (x (ValueIdx.ix2 (rowOf q p) k) * ·) ?_
  unfold weights
  rw [gather3, experts_entry T0 q e h]
  pointwise
  try rfl

theorem act_entry (z : FVec Ideal S160x256x4096 .f32) (q : Fin 160) (p : Fin 256) (j : Fin 2048) :
    act z (ValueIdx.ix3 q p j) = gated (z (ValueIdx.ix3 q p (low j))) (z (ValueIdx.ix3 q p (high j))) := by
  unfold gated
  pointwise [act, gate]
  try rfl

theorem used_entry (q : Fin 160) (p : Fin 256) (j : Fin 2048) :
    used T1 (ValueIdx.ix3 q p j) = IntOp.cmpi .slt (BitVec.ofNat 32 q.val) (T1 (ValueIdx.ix1 0)) := by
  pointwise [used]
  try rfl

theorem result_entry (q : Fin 160) (p : Fin 256) (j : Fin 2048) :
    result T0 T1 x w b (ValueIdx.ix2 (rowOf q p) j)
      = Scalar.select (IntOp.cmpi .slt (BitVec.ofNat 32 q.val) (T1 (ValueIdx.ix1 0))) (act (halves T0 x w b) (ValueIdx.ix3 q p j)) 0 := by
  rw [← used_entry T1 q p j]
  unfold result
  generalize act (halves T0 x w b) = z
  generalize used T1 = z'
  have e : ∀ (h0 : (rowOf q p).val / 256 < 160) (h1 : (rowOf q p).val % 256 < 256),
      (ValueIdx.ix3 ⟨(rowOf q p).val / 256, h0⟩ ⟨(rowOf q p).val % 256, h1⟩ j : S160x256x2048.Idx) = ValueIdx.ix3 q p j := by
    intro h0 h1
    have hq : (⟨(rowOf q p).val / 256, h0⟩ : Fin 160) = q := Fin.ext (by show (q.val * 256 + p.val) / 256 = q.val; omega)
    have hp : (⟨(rowOf q p).val % 256, h1⟩ : Fin 256) = p := Fin.ext (by show (q.val * 256 + p.val) % 256 = p.val; omega)
    rw [hq, hp]
  pointwise
  exact congrArg (fun i => Scalar.select (z' i) (z i) 0) (e _ _)

end Ref

end Cert.Gate

end
-- ==== Proof.Gate.Value.lean ====
/-
  The gate-and-up kernel at an entry: what a point's blocks are of the arguments, what the point leaves in the output, and that
  the result array is the reference's.
-/
module

public import proofs.«01_k».proof.Proof.Gate.Tables
public import proofs.«01_k».proof.Proof.Gate.Reference
public import Idealize.ShloMosaic.Lib.Pipeline.Value

@[expose] public section

set_option maxRecDepth 16384

noncomputable section

namespace Cert.Gate

open Cert.KernelIdeal Cert.KernelIdeal.Gen
open Idealize.ShloMosaic Idealize.ShloMosaic.TcCoe Idealize.SL.Sem
open Cert.Gate.Ref (low high rowOf)

/-! ## A point's payloads -/

section
variable (x : Vec Ideal S256x2048 .bf16) (a0 a1 : Vec Ideal S2048x512 .bf16) (b0 b1 : Vec Ideal S1x1x512 .f32)

theorem first_weights (v : Vec Ideal S1x2048x512 .f32) (k : Fin 2048) (j : Fin 512) : k0_pay3 v (ValueIdx.ix2 k j) = v (ValueIdx.ix3 0 k j) := by
  pointwise [k0_pay3]
  try rfl

theorem second_weights (v : Vec Ideal S1x2048x512 .f32) (k : Fin 2048) (j : Fin 512) : k0_pay4 v (ValueIdx.ix2 k j) = v (ValueIdx.ix3 0 k j) := by
  pointwise [k0_pay4]
  try rfl

theorem gate_tile (p : Fin 256) (j : Fin 512) :
    k0_pay5 x a0 b0 (ValueIdx.ix2 p j)
      = min (affine (fun k => x (ValueIdx.ix2 p k)) (fun k => a0 (ValueIdx.ix2 k j)) (b0 (ValueIdx.ix3 0 0 j))) (Ideal.ofBits FTy.f32 0x40E00000#32) := by
  unfold affine
  pointwise [k0_pay5]
  try rfl

theorem up_tile (p : Fin 256) (j : Fin 512) :
    k0_pay6 x a0 b0 a1 b1 (ValueIdx.ix2 p j)
      = (min (max (affine (fun k => x (ValueIdx.ix2 p k)) (fun k => a1 (ValueIdx.ix2 k j)) (b1 (ValueIdx.ix3 0 0 j))) (Ideal.ofBits FTy.f32 0xC0E00000#32)) (Ideal.ofBits FTy.f32 0x40E00000#32) + 1)
        * k0_pay5 x a0 b0 (ValueIdx.ix2 p j) := by
  unfold affine k0_pay6
  generalize k0_pay5 x a0 b0 = z
  rw [min_comm, max_comm]
  pointwise
  try rfl

theorem sigmoid_tile (p : Fin 256) (j : Fin 512) :
    k0_pay7 x a0 b0 (ValueIdx.ix2 p j)
      = Ideal.div 1 (1 + Ideal.exp (-(Ideal.ofBits FTy.f32 0x3FD9DB23#32 * k0_pay5 x a0 b0 (ValueIdx.ix2 p j)))) := by
  unfold k0_pay7
  generalize k0_pay5 x a0 b0 = z
  pointwise
  try rfl

theorem out_tile (p : Fin 256) (j : Fin 512) :
    outOf x a0 a1 b0 b1 (ValueIdx.ix2 p j)
      = gated (affine (fun k => x (ValueIdx.ix2 p k)) (fun k => a0 (ValueIdx.ix2 k j)) (b0 (ValueIdx.ix3 0 0 j)))
          (affine (fun k => x (ValueIdx.ix2 p k)) (fun k => a1 (ValueIdx.ix2 k j)) (b1 (ValueIdx.ix3 0 0 j))) := by
  have e : outOf x a0 a1 b0 b1 (ValueIdx.ix2 p j) = k0_pay6 x a0 b0 a1 b1 (ValueIdx.ix2 p j) * k0_pay7 x a0 b0 (ValueIdx.ix2 p j) := rfl
  rw [e, up_tile, sigmoid_tile, gate_tile]
  rfl

theorem past_tile (p : Fin 256) (j : Fin 512) : k0_pay2 (F := Ideal) (ValueIdx.ix2 p j) = 0 := by
  pointwise [k0_pay2]
  try rfl

end

/-! ## The host's arrays -/

variable (m : (ℓ : Loc nD τ sig) → Buf (Elt Ideal) ℓ) (a : (pcfg0 (F := Ideal)).Adm) (c : Dev nD)

theorem weights_cast (w : FVec Ideal S1x32x2048x4096 .f32) (e : Fin 32) (k : Fin 2048) (l : Fin 4096) :
    shapeCast S32x2048x4096 w shapeCasts_S1x32x2048x4096_S32x2048x4096 (ValueIdx.ix3 e k l) = w (ValueIdx.ix4 0 e k l) := by
  pointwise
  try rfl

theorem bias_cast (b : FVec Ideal S1x32x4096 .f32) (e : Fin 32) (l : Fin 4096) :
    shapeCast S32x1x4096 (shapeCast S32x4096 b shapeCasts_S1x32x4096_S32x4096) shapeCasts_S32x4096_S32x1x4096 (ValueIdx.ix3 e 0 l) = b (ValueIdx.ix3 0 e l) := by
  pointwise
  try rfl

theorem weights_entry (e : Fin 32) (k : Fin 2048) (l : Fin 4096) :
    V m c main_v0 (ValueIdx.ix3 e k l) = m ((c.tc : Thread nD τ).loc main_arg3) (ValueIdx.ix4 0 e k l) := by
  have h : (V m c main_v0 : FVec Ideal S32x2048x4096 .f32) = shapeCast S32x2048x4096 (m ((c.tc : Thread nD τ).loc main_arg3)) shapeCasts_S1x32x2048x4096_S32x2048x4096 := by
    show StableHlo.after hostOps0 _ (Proc.devRef .tc main_v0) = _
    after_results <;> rfl
  exact (congrFun h _).trans (weights_cast _ e k l)

theorem bias_entry_2 (e : Fin 32) (l : Fin 4096) :
    V m c main_v2 (ValueIdx.ix3 e 0 l) = m ((c.tc : Thread nD τ).loc main_arg4) (ValueIdx.ix3 0 e l) := by
  have h : (V m c main_v2 : FVec Ideal S32x1x4096 .f32) = shapeCast S32x1x4096 (shapeCast S32x4096 (m ((c.tc : Thread nD τ).loc main_arg4)) shapeCasts_S1x32x4096_S32x4096) shapeCasts_S32x4096_S32x1x4096 := by
    show StableHlo.after hostOps0 _ (Proc.devRef .tc main_v2) = _
    after_results <;> rfl
  exact (congrFun h _).trans (bias_cast _ e l)

theorem bias_entry_3 (e : Fin 32) (l : Fin 4096) :
    V m c main_v3 (ValueIdx.ix3 e 0 l) = m ((c.tc : Thread nD τ).loc main_arg4) (ValueIdx.ix3 0 e l) := by
  have h : (V m c main_v3 : FVec Ideal S32x1x4096 .f32) = shapeCast S32x1x4096 (shapeCast S32x4096 (m ((c.tc : Thread nD τ).loc main_arg4)) shapeCasts_S1x32x4096_S32x4096) shapeCasts_S32x4096_S32x1x4096 := by
    show StableHlo.after hostOps0 _ (Proc.devRef .tc main_v3) = _
    after_results <;> rfl
  exact (congrFun h _).trans (bias_cast _ e l)

/-! ## A point's blocks of the arguments -/

/-- The point that computes a row block's columns `512 j …`. -/
def pointOf (q : Fin 160) (j : Fin 4) : Fin (cfgA a).N := ⟨j.val * 160 + q.val, lt_of_lt_of_eq (by omega) (show 640 = (cfgA a).N from N_0.symm)⟩

theorem point_row (q : Fin 160) (j : Fin 4) : (crd a (pointOf a q j) 1).val = q.val :=
  (row_of (pointOf a q j)).trans (by show (j.val * 160 + q.val) % 160 = q.val; omega)

theorem point_column (q : Fin 160) (j : Fin 4) : (crd a (pointOf a q j) 0).val = j.val :=
  (column_of (pointOf a q j)).trans (by show (j.val * 160 + q.val) / 160 = j.val; omega)

/-- A column of a point's first half. -/
def colOf (j : Fin 4) (l : Fin 512) : Fin 2048 := ⟨j.val * 512 + l.val, by omega⟩

theorem expert_of (q : Fin 160) (j : Fin 4) : expertAt (a.1 0) (crd a (pointOf a q j)) = (tab0 a (ValueIdx.ix1 q) : BitVec 32) := by
  refine congrArg (tab0 a) (funext fun k => Fin.ext ?_)
  match k with
  | ⟨0, _⟩ => exact point_row a q j

theorem count_of : (countOf a.1 : BitVec 32) = (tab1 a (ValueIdx.ix1 0) : BitVec 32) := by
  refine congrArg (tab1 a) (funext fun k => ?_)
  match k with
  | ⟨0, _⟩ => exact Subsingleton.elim (α := Fin 1) _ _

theorem count_word : (wCount (tab1 a) : BitVec 32) = (tab1 a (ValueIdx.ix1 0) : BitVec 32) := by
  refine congrArg (tab1 a) (funext fun k => ?_)
  match k with
  | ⟨0, _⟩ => exact Subsingleton.elim (α := Fin 1) _ _

theorem valid_iff (q : Fin 160) (j : Fin 4) :
    valid a (pointOf a q j) ↔ IntOp.cmpi .slt (BitVec.ofNat 32 q.val) (tab1 a (ValueIdx.ix1 0) : BitVec 32) = 1#1 := by
  unfold valid
  rw [cond1_iff, count_word, point_row, IntOp.cmpi_slt, BitVec.slt_iff_toInt_lt]

/-- A valid block's index is its own: the clamp does nothing. -/
theorem clamp (q : Fin 160) (v : BitVec 32) (h : IntOp.cmpi .slt (BitVec.ofNat 32 q.val) v = 1#1) :
    (Scalar.minsi (BitVec.ofNat 32 q.val) (Scalar.subi v 1#32) : BitVec 32).toNat = q.val := by
  have h' := IntOp.cmpi_slt.mp h
  show (if (BitVec.ofNat 32 q.val).slt (v - 1#32) then BitVec.ofNat 32 q.val else v - 1#32 : BitVec 32).toNat = q.val
  split
  · rw [BitVec.toNat_ofNat]; omega
  · rename_i hn
    rw [BitVec.slt_iff_toInt_lt, BitVec.toInt_eq_toNat_cond, BitVec.toInt_eq_toNat_cond, BitVec.toNat_sub, BitVec.toNat_ofNat, BitVec.toNat_ofNat] at hn
    rw [BitVec.toInt_eq_toNat_cond, BitVec.toInt_eq_toNat_cond, BitVec.toNat_ofNat] at h'
    have := v.isLt
    have := q.isLt
    rw [BitVec.toNat_sub, BitVec.toNat_ofNat]
    split at h' <;> split at h' <;> split at hn <;> (try split at hn) <;> omega

theorem block_0 (q : Fin 160) (j : Fin 4) (hv : valid a (pointOf a q j)) (p : Fin 256) (k : Fin 2048) :
    (iblk m a c (0 : Fin 6) (pointOf a q j) : Vec Ideal S256x2048 .bf16) (ValueIdx.ix2 p k)
      = m ((c.tc : Thread nD τ).loc main_arg2) (ValueIdx.ix2 (rowOf q p) k) := by
  have hi : cc0_transform_0 inb_S1_S1_0 numel1_S1 a.1 (crd a (pointOf a q j)) = ![q.val, 0] := by
    rw [map_0, point_row, count_of, clamp q _ ((valid_iff a q j).mp hv)]
  unfold iblk
  rw [View.read_apply]
  refine Eq.trans ?_ (congrFun (keeps_2 m c) _)
  show V m c main_arg2 _ = V m c main_arg2 _
  refine congrArg (V m c main_arg2) (funext fun d => Fin.ext ?_)
  match d with
  | ⟨0, _⟩ => show cc0_transform_0 inb_S1_S1_0 numel1_S1 a.1 (crd a (pointOf a q j)) 0 * 256 + 1 * p.val = q.val * 256 + p.val
              rw [hi]; show q.val * 256 + 1 * p.val = q.val * 256 + p.val; omega
  | ⟨1, _⟩ => show cc0_transform_0 inb_S1_S1_0 numel1_S1 a.1 (crd a (pointOf a q j)) 1 * 2048 + 1 * k.val = k.val
              rw [hi]; show 0 * 2048 + 1 * k.val = k.val; omega

section
variable (q : Fin 160) (j : Fin 4) (e : Fin 32) (he : (tab0 a (ValueIdx.ix1 q) : BitVec 32).toNat = e.val)
include he

theorem block_1 (k : Fin 2048) (l : Fin 512) :
    (iblk m a c (1 : Fin 6) (pointOf a q j) : Vec Ideal S1x2048x512 .f32) (ValueIdx.ix3 0 k l)
      = m ((c.tc : Thread nD τ).loc main_arg3) (ValueIdx.ix4 0 e k (low (colOf j l))) := by
  have hi : cc0_transform_1 k0_off1_inb numel1_S1 a.1 (crd a (pointOf a q j)) = ![e.val, 0, j.val] := by
    rw [map_1, point_column, expert_of, he]
  unfold iblk
  rw [View.read_apply]
  refine Eq.trans ?_ (weights_entry m c e k (low (colOf j l)))
  show V m c main_v0 _ = V m c main_v0 _
  refine congrArg (V m c main_v0) (funext fun d => Fin.ext ?_)
  match d with
  | ⟨0, _⟩ => show cc0_transform_1 k0_off1_inb numel1_S1 a.1 (crd a (pointOf a q j)) 0 * 1 + 1 * 0 = e.val
              rw [hi]; show e.val * 1 + 1 * 0 = e.val; omega
  | ⟨1, _⟩ => show cc0_transform_1 k0_off1_inb numel1_S1 a.1 (crd a (pointOf a q j)) 1 * 2048 + 1 * k.val = k.val
              rw [hi]; show 0 * 2048 + 1 * k.val = k.val; omega
  | ⟨2, _⟩ => show cc0_transform_1 k0_off1_inb numel1_S1 a.1 (crd a (pointOf a q j)) 2 * 512 + 1 * l.val = j.val * 512 + l.val
              rw [hi]; show j.val * 512 + 1 * l.val = j.val * 512 + l.val; omega

theorem block_2 (k : Fin 2048) (l : Fin 512) :
    (iblk m a c (2 : Fin 6) (pointOf a q j) : Vec Ideal S1x2048x512 .f32) (ValueIdx.ix3 0 k l)
      = m ((c.tc : Thread nD τ).loc main_arg3) (ValueIdx.ix4 0 e k (high (colOf j l))) := by
  have hi : cc0_transform_2 k0_off1_inb numel1_S1 a.1 (crd a (pointOf a q j)) = ![e.val, 0, 4 + j.val] := by
    rw [map_2, point_column, expert_of, he]
  unfold iblk
  rw [View.read_apply]
  refine Eq.trans ?_ (weights_entry m c e k (high (colOf j l)))
  show V m c main_v0 _ = V m c main_v0 _
  refine congrArg (V m c main_v0) (funext fun d => Fin.ext ?_)
  match d with
  | ⟨0, _⟩ => show cc0_transform_2 k0_off1_inb numel1_S1 a.1 (crd a (pointOf a q j)) 0 * 1 + 1 * 0 = e.val
              rw [hi]; show e.val * 1 + 1 * 0 = e.val; omega
  | ⟨1, _⟩ => show cc0_transform_2 k0_off1_inb numel1_S1 a.1 (crd a (pointOf a q j)) 1 * 2048 + 1 * k.val = k.val
              rw [hi]; show 0 * 2048 + 1 * k.val = k.val; omega
  | ⟨2, _⟩ => show cc0_transform_2 k0_off1_inb numel1_S1 a.1 (crd a (pointOf a q j)) 2 * 512 + 1 * l.val = 2048 + (j.val * 512 + l.val)
              rw [hi]; show (4 + j.val) * 512 + 1 * l.val = 2048 + (j.val * 512 + l.val); omega

theorem block_3 (l : Fin 512) :
    (iblk m a c (3 : Fin 6) (pointOf a q j) : Vec Ideal S1x1x512 .f32) (ValueIdx.ix3 0 0 l)
      = m ((c.tc : Thread nD τ).loc main_arg4) (ValueIdx.ix3 0 e (low (colOf j l))) := by
  have hi : cc0_transform_3 k0_off1_inb numel1_S1 a.1 (crd a (pointOf a q j)) = ![e.val, 0, j.val] := by
    rw [map_3, point_column, expert_of, he]
  unfold iblk
  rw [View.read_apply]
  refine Eq.trans ?_ (bias_entry_2 m c e (low (colOf j l)))
  show V m c main_v2 _ = V m c main_v2 _
  refine congrArg (V m c main_v2) (funext fun d => Fin.ext ?_)
  match d with
  | ⟨0, _⟩ => show cc0_transform_3 k0_off1_inb numel1_S1 a.1 (crd a (pointOf a q j)) 0 * 1 + 1 * 0 = e.val
              rw [hi]; show e.val * 1 + 1 * 0 = e.val; omega
  | ⟨1, _⟩ => show cc0_transform_3 k0_off1_inb numel1_S1 a.1 (crd a (pointOf a q j)) 1 * 1 + 1 * 0 = 0
              rw [hi]; rfl
  | ⟨2, _⟩ => show cc0_transform_3 k0_off1_inb numel1_S1 a.1 (crd a (pointOf a q j)) 2 * 512 + 1 * l.val = j.val * 512 + l.val
              rw [hi]; show j.val * 512 + 1 * l.val = j.val * 512 + l.val; omega

theorem block_4 (l : Fin 512) :
    (iblk m a c (4 : Fin 6) (pointOf a q j) : Vec Ideal S1x1x512 .f32) (ValueIdx.ix3 0 0 l)
      = m ((c.tc : Thread nD τ).loc main_arg4) (ValueIdx.ix3 0 e (high (colOf j l))) := by
  have hi : cc0_transform_4 k0_off1_inb numel1_S1 a.1 (crd a (pointOf a q j)) = ![e.val, 0, 4 + j.val] := by
    rw [map_4, point_column, expert_of, he]
  unfold iblk
  rw [View.read_apply]
  refine Eq.trans ?_ (bias_entry_3 m c e (high (colOf j l)))
  show V m c main_v3 _ = V m c main_v3 _
  refine congrArg (V m c main_v3) (funext fun d => Fin.ext ?_)
  match d with
  | ⟨0, _⟩ => show cc0_transform_4 k0_off1_inb numel1_S1 a.1 (crd a (pointOf a q j)) 0 * 1 + 1 * 0 = e.val
              rw [hi]; show e.val * 1 + 1 * 0 = e.val; omega
  | ⟨1, _⟩ => show cc0_transform_4 k0_off1_inb numel1_S1 a.1 (crd a (pointOf a q j)) 1 * 1 + 1 * 0 = 0
              rw [hi]; rfl
  | ⟨2, _⟩ => show cc0_transform_4 k0_off1_inb numel1_S1 a.1 (crd a (pointOf a q j)) 2 * 512 + 1 * l.val = 2048 + (j.val * 512 + l.val)
              rw [hi]; show (4 + j.val) * 512 + 1 * l.val = 2048 + (j.val * 512 + l.val); omega

/-- The reference, of the memory's arguments. -/
abbrev wanted : FVec Ideal Cert.ReferenceIdeal.S40960x2048 .bf16 :=
  Ref.result (tab0 a) (tab1 a) (m ((c.tc : Thread nD τ).loc main_arg2)) (m ((c.tc : Thread nD τ).loc main_arg3)) (m ((c.tc : Thread nD τ).loc main_arg4))

/-- What a point leaves in the output's block is the reference's entry. -/
theorem out_entry (p : Fin 256) (l : Fin 512) :
    outAt m a c (pointOf a q j) (ValueIdx.ix2 p l) = wanted m a c (ValueIdx.ix2 (rowOf q p) (colOf j l)) := by
  unfold wanted
  rw [Ref.result_entry, Ref.act_entry, Ref.halves_entry _ _ _ _ q p _ e he, Ref.halves_entry _ _ _ _ q p _ e he]
  unfold outAt
  by_cases hv : valid a (pointOf a q j)
  · rw [if_pos hv, (valid_iff a q j).mp hv, out_tile]
    show _ = gated _ _
    have e0 : (fun k => (iblk m a c (0 : Fin 6) (pointOf a q j) : Vec Ideal S256x2048 .bf16) (ValueIdx.ix2 p k))
        = fun k => m ((c.tc : Thread nD τ).loc main_arg2) (ValueIdx.ix2 (rowOf q p) k) := funext fun k => block_0 m a c q j hv p k
    have e1 : (fun k => wgt0 m a c (pointOf a q j) (ValueIdx.ix2 k l))
        = fun k => m ((c.tc : Thread nD τ).loc main_arg3) (ValueIdx.ix4 0 e k (low (colOf j l))) :=
      funext fun k => (first_weights _ k l).trans (block_1 m a c q j e he k l)
    have e2 : (fun k => wgt1 m a c (pointOf a q j) (ValueIdx.ix2 k l))
        = fun k => m ((c.tc : Thread nD τ).loc main_arg3) (ValueIdx.ix4 0 e k (high (colOf j l))) :=
      funext fun k => (second_weights _ k l).trans (block_2 m a c q j e he k l)
    have e3 := block_3 m a c q j e he l
    have e4 := block_4 m a c q j e he l
    exact congr (congrArg gated (congr (congr (congrArg affine e0) e1) e3)) (congr (congr (congrArg affine e0) e2) e4)
  · have h0 : IntOp.cmpi .slt (BitVec.ofNat 32 q.val) (tab1 a (ValueIdx.ix1 0) : BitVec 32) = 0#1 := by
      rcases BitVec.eq_zero_or_eq_one (IntOp.cmpi .slt (BitVec.ofNat 32 q.val) (tab1 a (ValueIdx.ix1 0) : BitVec 32)) with h | h
      · exact h
      · exact absurd ((valid_iff a q j).mpr h) hv
    rw [if_neg hv, h0, past_tile]
    rfl

end

/-! ## The result array -/

theorem out_index (t : Fin (cfgA a).N) : ((cfgA a).win (5 : Fin 6)).index t = ![t.val % 160, t.val / 160] := by
  refine (map_5 (crd a t)).trans ?_
  exact congrArg₂ (fun (u v : ℕ) => (![u, v] : Fin 2 → ℕ)) (row_of t) (column_of t)

theorem out_inj (t t' : Fin (cfgA a).N) (h : ((cfgA a).win (5 : Fin 6)).index t = ((cfgA a).win (5 : Fin 6)).index t') : t = t' := by
  rw [out_index, out_index] at h
  have h0 : t.val % 160 = t'.val % 160 := congrFun h 0
  have h1 : t.val / 160 = t'.val / 160 := congrFun h 1
  exact Fin.ext (by omega)

theorem out_flushes (t : Fin (cfgA a).N) : ((cfgA a).win (5 : Fin 6)).flush t = true := by
  refine (((cfgA a).win (5 : Fin 6)).flush_reads rfl 1 (by decide : 1 < grid0.bound 1) (by decide : grid0.fixedAfter reads0_5 1 = true) ?_
    (by decide : grid0.stride 1 = 1) (m := 0) rfl t).mpr (Nat.mod_one _)
  intro i i' h
  have h' : cc0_transform_5 i = cc0_transform_5 i' := h
  rw [map_5, map_5] at h'
  exact Fin.ext (congrFun h' 0)

theorem array_entry (hg : Good a.1) (q : Fin 160) (p : Fin 256) (j : Fin 4) (l : Fin 512) :
    (dats m a 0 c).arrAt (5 : Fin 6) (cfgA a).N (ValueIdx.ix2 (rowOf q p) (colOf j l)) = wanted m a c (ValueIdx.ix2 (rowOf q p) (colOf j l)) := by
  have h := (dats m a 0 c).read_blk_arrAt_eq_flushed (5 : Fin 6) (fun t t' _ _ hne => ((cfgA a).win (5 : Fin 6)).disjoint_blk fun h => hne (out_inj a t t' h))
    (cfgA a).N (pointOf a q j) (pointOf a q j).isLt (out_flushes a _)
  have e := out_entry m a c q j ⟨_, hg.1 (ValueIdx.ix1 q)⟩ rfl p l
  have hi : cc0_transform_5 (crd a (pointOf a q j)) = ![q.val, j.val] := by rw [map_5, point_row, point_column]
  generalize (dats m a 0 c).arrAt (5 : Fin 6) (cfgA a).N = A at h ⊢
  have h' := congrFun h (ValueIdx.ix2 p l)
  rw [View.read_apply] at h'
  refine Eq.trans ?_ (h'.trans e)
  refine congrArg A (funext fun d => Fin.ext ?_)
  match d with
  | ⟨0, _⟩ => show q.val * 256 + p.val = cc0_transform_5 (crd a (pointOf a q j)) 0 * 256 + 1 * p.val
              rw [hi]; show q.val * 256 + p.val = q.val * 256 + 1 * p.val; omega
  | ⟨1, _⟩ => show j.val * 512 + l.val = cc0_transform_5 (crd a (pointOf a q j)) 1 * 512 + 1 * l.val
              rw [hi]; show j.val * 512 + l.val = j.val * 512 + 1 * l.val; omega

/-- The kernel's result is the reference's. -/
theorem equal (hg : Good a.1) : (dats m a 0 c).arrAt (5 : Fin 6) (cfgA a).N = wanted m a c := by
  funext x
  have h0 : (x 0).val < 40960 := (x 0).isLt
  have h1 : (x 1).val < 2048 := (x 1).isLt
  have hx : x = ValueIdx.ix2 (rowOf ⟨(x 0).val / 256, by omega⟩ ⟨(x 0).val % 256, by omega⟩) (colOf ⟨(x 1).val / 512, by omega⟩ ⟨(x 1).val % 512, by omega⟩) := by
    funext k
    refine Fin.ext ?_
    match k with
    | ⟨0, _⟩ => show (x 0).val = (x 0).val / 256 * 256 + (x 0).val % 256; omega
    | ⟨1, _⟩ => show (x 1).val = (x 1).val / 512 * 512 + (x 1).val % 512; omega
  rw [hx]
  exact array_entry m a c hg _ _ _ _

end Cert.Gate

end
-- ==== Proof.Down.Texts.lean ====
/-
  The second expert product's text, and its text as it is read over the extended reals, are one and the same: no operation was
  rewritten between the two, so they agree statement by statement at the hardware's floats.
-/
module

public import proofs.«01_k».proof.Defs
public import proofs.«01_k».proof.Proof.Gen.Kernel3
public import proofs.«01_k».proof.Proof.Gen.Kernel3Ideal

@[expose] public section

set_option maxRecDepth 65536

noncomputable section

namespace Cert.Down.Texts

open Idealize.ShloMosaic Idealize.ShloMosaic.TcCoe Idealize.SL.Sem

set_option smartUnfolding false in
set_option maxHeartbeats 1000000 in
theorem part : @Cert.Kernel3.k0_part1 Bits _ _ = @Cert.Kernel3Ideal.k0_part1 Bits _ _ := by
  unfold Cert.Kernel3.k0_part1 Cert.Kernel3Ideal.k0_part1
  rfl

set_option smartUnfolding false in
set_option maxHeartbeats 1000000 in
theorem body : Cert.Kernel3.cc0_moe_down (F := Bits) = Cert.Kernel3Ideal.cc0_moe_down (F := Bits) := by
  unfold Cert.Kernel3.cc0_moe_down Cert.Kernel3Ideal.cc0_moe_down
  rw [part]
  rfl

set_option smartUnfolding false in
theorem bodies : Cert.Kernel3.defs₀ (F := Bits) = Cert.Kernel3Ideal.defs₀ (F := Bits) := by
  unfold Cert.Kernel3.defs₀ Cert.Kernel3Ideal.defs₀
  rw [body]
  rfl

theorem labels : Cert.Kernel3.defs (F := Bits) = Cert.Kernel3Ideal.defs (F := Bits) := by
  unfold Cert.Kernel3.defs Cert.Kernel3Ideal.defs
  rw [bodies]
  rfl

end Cert.Down.Texts

end
-- ==== Proof.Down.Run.lean ====
/-
  One grid point of the second expert product's kernel: what the body leaves in its output block and in its kept weight block,
  in each of the three ways it can go. At any interpretation of the floating-point operations and any tables.
-/
module

public import proofs.«01_k».proof.Defs
public import proofs.«01_k».proof.Proof.Gen.Kernel3Ideal
public import proofs.«01_k».proof.Proof.Gen.Kernel3Ideal.Launch
public import proofs.«01_k».proof.Proof.Gen.Kernel3Ideal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Pointwise
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of experts and the count of valid blocks, whole, and the kept weight block. -/
abbrev tb0 : Memref sig .tc .smem S160 .i32 := Memref.whole main_arg0
abbrev tb1 : Memref sig .tc .smem S1 .i32 := Memref.whole main_arg1
abbrev sc0 : Memref sig .tc .vmem S2048x1024 .bf16 := Memref.whole cc0_scratch0

/-- The table words the body reads: the count, the block's expert, and the expert of the block before. -/
abbrev wCount (T1 : S1.Idx → Elt F .i32) : BitVec 32 :=
  View.readAt (Elt F) tb1.view (Rect.unit (s := S1) ![0] S1.size inb_S1_S1_0).toLoadRect T1 (Shape.Idx.first (numel1_S1.symm ▸ Nat.one_pos))
abbrev wHere (i : grid0.Coords) (T0 : S160.Idx → Elt F .i32) : BitVec 32 :=
  View.readAt (Elt F) tb0.view (Rect.unit (s := S160) (k0_off3 i) S1.size (k0_off3_inb i)).toLoadRect T0 (Shape.Idx.first (numel1_S1.symm ▸ Nat.one_pos))
abbrev wLast (i : grid0.Coords) (T0 : S160.Idx → Elt F .i32) : BitVec 32 :=
  View.readAt (Elt F) tb0.view (Rect.unit (s := S160) (k0_off2 i) S1.size (k0_off2_inb i)).toLoadRect T0 (Shape.Idx.first (numel1_S1.symm ▸ Nat.one_pos))

/-- Whether the weight block is taken anew: at a column's first block, and where the expert changes. -/
abbrev wNew (i : grid0.Coords) (T0 : S160.Idx → Elt F .i32) : BitVec 1 :=
  Scalar.cmpi .ne (Scalar.extui (Scalar.ori (Scalar.cmpi .eq (BitVec.ofNat 32 (i 1).val) 0#32) (Scalar.cmpi .ne (wHere i T0) (wLast i T0)))) 0#32

/-- A column among the tile's 1024, from its group of 128 and its place in the group. -/
def lane (s : Fin 8) (l : Fin 128) : Fin 1024 := ⟨s.val * 128 + l.val, by omega⟩

/-- The output block of a valid point, from its rows, the kept weight block and the bias row: the product's columns in groups of 128. -/
def outOf (x : Vec F S256x2048 .bf16) (a0 : Vec F S2048x1024 .bf16) (b0 : Vec F S1x1x1024 .f32) : Vec F S256x8x128 .f32 :=
  fun q => k0_pay8 x a0 b0 (ValueIdx.ix2 (q 0) (lane (q 1) (q 2)))

theorem piece_entry (z : FVec F S256x1024 .f32) (o : ℕ) (h : S256x1024.Slices ![0, o] S256x128) (q : S256x1x128.Idx) (j : Fin 1024) (hj : j.val = o + (q 2).val) :
    shapeCast S256x1x128 (extractStridedSlice S256x128 ![0, o] z h) shapeCasts_S256x128_S256x1x128 q = z (ValueIdx.ix2 (q 0) j) := by
  have e : ∀ (v : FVec F S256x128 .f32) (p : Fin 256) (l : Fin 128), shapeCast S256x1x128 v shapeCasts_S256x128_S256x1x128 (ValueIdx.ix3 p 0 l) = v (ValueIdx.ix2 p l) := by
    intro v p l
    pointwise
    try rfl
  have hq : q = ValueIdx.ix3 (q 0) 0 (q 2) := by
    funext a
    match a with
    | ⟨0, _⟩ => rfl
    | ⟨1, _⟩ => exact Subsingleton.elim (α := Fin 1) _ _
    | ⟨2, _⟩ => rfl
  refine (congrArg (shapeCast S256x1x128 (extractStridedSlice S256x128 ![0, o] z h) shapeCasts_S256x128_S256x1x128) hq).trans ((e _ (q 0) (q 2)).trans ?_)
  refine congrArg z (funext fun a => Fin.ext ?_)
  match a with
  | ⟨0, _⟩ => show 0 + (q 0).val = (q 0).val; omega
  | ⟨1, _⟩ => show o + (q 2).val = j.val; omega

/-- The eight pieces a valid point stores, the last stored first. -/
def pieces (x : Vec F S256x2048 .bf16) (a0 : Vec F S2048x1024 .bf16) (b0 : Vec F S1x1x1024 .f32) : List (View.Piece (Elt F) S256x8x128 .f32) :=
  [⟨Rect.unit (s := S256x8x128) ![0, 7, 0] S256x1x128.size inb_S256x8x128_S256x1x128_0_7_0, k0_pay5 (k0_pay8 x a0 b0)⟩,
    ⟨Rect.unit (s := S256x8x128) ![0, 6, 0] S256x1x128.size inb_S256x8x128_S256x1x128_0_6_0, k0_pay4 (k0_pay8 x a0 b0)⟩,
    ⟨Rect.unit (s := S256x8x128) ![0, 5, 0] S256x1x128.size inb_S256x8x128_S256x1x128_0_5_0, k0_pay3 (k0_pay8 x a0 b0)⟩,
    ⟨Rect.unit (s := S256x8x128) ![0, 4, 0] S256x1x128.size inb_S256x8x128_S256x1x128_0_4_0, k0_pay2 (k0_pay8 x a0 b0)⟩,
    ⟨Rect.unit (s := S256x8x128) ![0, 3, 0] S256x1x128.size inb_S256x8x128_S256x1x128_0_3_0, k0_pay1 (k0_pay12 x a0 b0)⟩,
    ⟨Rect.unit (s := S256x8x128) ![0, 2, 0] S256x1x128.size inb_S256x8x128_S256x1x128_0_2_0, k0_pay11 x a0 b0⟩,
    ⟨Rect.unit (s := S256x8x128) ![0, 1, 0] S256x1x128.size inb_S256x8x128_S256x1x128_0_1_0, k0_pay10 x a0 b0⟩,
    ⟨Rect.unit (s := S256x8x128) ![0, 0, 0] S256x1x128.size inb_S256x8x128_S256x1x128_0_0_0, k0_pay9 x a0 b0⟩]

/-- Each piece holds its group of the product's columns. -/
theorem pieces_agree (x : Vec F S256x2048 .bf16) (a0 : Vec F S2048x1024 .bf16) (b0 : Vec F S1x1x1024 .f32) :
    ∀ p ∈ pieces x a0 b0, ∀ q : p.1.shape.Idx, p.2 q = outOf x a0 b0 (p.1.emb q) := by
  have key : ∀ (k : Fin 8) (o : ℕ) (ho : o = k.val * 128) (h : S256x1024.Slices ![0, o] S256x128) (hi : ∀ a, (![0, k.val, 0] : Fin 3 → Nat) a + S256x1x128.size a ≤ S256x8x128.size a) (q : S256x1x128.Idx),
      shapeCast S256x1x128 (extractStridedSlice S256x128 ![0, o] (k0_pay8 x a0 b0) h) shapeCasts_S256x128_S256x1x128 q
        = outOf x a0 b0 ((Rect.unit (s := S256x8x128) ![0, k.val, 0] S256x1x128.size hi).emb q) := by
    intro k o ho h hi q
    have h1 : (q 1).val = 0 := by have : (q 1).val < 1 := (q 1).isLt; omega
    have e0 : ((Rect.unit (s := S256x8x128) ![0, k.val, 0] S256x1x128.size hi).emb q 0).val = (q 0).val := by
      show 0 + 1 * (q 0).val = (q 0).val; omega
    have e1 : ((Rect.unit (s := S256x8x128) ![0, k.val, 0] S256x1x128.size hi).emb q 1).val = k.val := by
      show k.val + 1 * (q 1).val = k.val; omega
    have e2 : ((Rect.unit (s := S256x8x128) ![0, k.val, 0] S256x1x128.size hi).emb q 2).val = (q 2).val := by
      show 0 + 1 * (q 2).val = (q 2).val; omega
    have hl : (q 2).val < 128 := (q 2).isLt
    rw [piece_entry (k0_pay8 x a0 b0) o h q ⟨o + (q 2).val, by have := k.isLt; omega⟩ rfl]
    unfold outOf
    refine congrArg (k0_pay8 x a0 b0) (funext fun a => Fin.ext ?_)
    match a with
    | ⟨0, _⟩ => exact e0.symm
    | ⟨1, _⟩ =>
      show o + (q 2).val = ((Rect.unit (s := S256x8x128) ![0, k.val, 0] S256x1x128.size hi).emb q 1).val * 128 + ((Rect.unit (s := S256x8x128) ![0, k.val, 0] S256x1x128.size hi).emb q 2).val
      rw [e1, e2, ho]
  unfold pieces
  simp only [List.forall_mem_cons, List.not_mem_nil, false_imp_iff, implies_true, and_true]
  exact ⟨key 7 896 rfl slices_S256x1024_o0_896_S256x128 inb_S256x8x128_S256x1x128_0_7_0,
    key 6 768 rfl slices_S256x1024_o0_768_S256x128 inb_S256x8x128_S256x1x128_0_6_0,
    key 5 640 rfl slices_S256x1024_o0_640_S256x128 inb_S256x8x128_S256x1x128_0_5_0,
    key 4 512 rfl slices_S256x1024_o0_512_S256x128 inb_S256x8x128_S256x1x128_0_4_0,
    key 3 384 rfl slices_S256x1024_o0_384_S256x128 inb_S256x8x128_S256x1x128_0_3_0,
    key 2 256 rfl slices_S256x1024_o0_256_S256x128 inb_S256x8x128_S256x1x128_0_2_0,
    key 1 128 rfl slices_S256x1024_o0_128_S256x128 inb_S256x8x128_S256x1x128_0_1_0,
    key 0 0 rfl slices_S256x1024_o0_0_S256x128 inb_S256x8x128_S256x1x128_0_0_0⟩

/-- What the eight stores leave, whatever the block held. -/
theorem stored (M : Memref sig .tc .vmem S256x8x128 .f32) (f : M.view.ty.Contents (Elt F)) (x : Vec F S256x2048 .bf16) (a0 : Vec F S2048x1024 .bf16) (b0 : Vec F S1x1x1024 .f32) :
    View.read (Elt F) M.view (M.view.writes (Elt F) f (pieces x a0 b0)) = outOf x a0 b0 :=
  funext fun y => View.read_writes_apply_of_pieces M.view f (outOf x a0 b0) (pieces x a0 b0) (pieces_agree x a0 b0) y
    (View.cover_of_tiled (pieces x a0 b0) S256x1x128.size rfl y)

set_option maxHeartbeats 8000000 in
/-- A valid block whose expert is new: the weight block is rounded and kept, then used. -/
theorem run_new (c : Dev nD) (i : grid0.Coords) (arg4 : Memref sig .tc .vmem S256x2048 .bf16) (harg4 : arg4.IsWhole)
    (arg5 : Memref sig .tc .vmem S1x2048x1024 .f32) (harg5 : arg5.IsWhole) (arg6 : Memref sig .tc .vmem S1x1x1024 .f32) (harg6 : arg6.IsWhole)
    (arg7 : Memref sig .tc .vmem S256x8x128 .f32) (harg7 : arg7.IsWhole)
    (T0 : S160.Idx → Elt F .i32) (T1 : S1.Idx → Elt F .i32)
    (x : Vec F S256x2048 .bf16) (w0 : Vec F S1x2048x1024 .f32) (b0 : Vec F S1x1x1024 .f32)
    (k0_h1 : k0_cond1 i (wCount T1) = 1#1) (hc1 : wNew i T0 = 1#1) (k0_h3 : ¬(k0_cond3 i (wCount T1) = 1#1))
    (K : PUnit → sProp 𝕄) :
    iprop((arg4.view.loc (c : Thread nD τ) ↦[arg4.view.set]{fullShare} arg4.view.rep x)
      ∗ (arg5.view.loc (c : Thread nD τ) ↦[arg5.view.set]{fullShare} arg5.view.rep w0)
      ∗ (arg6.view.loc (c : Thread nD τ) ↦[arg6.view.set]{fullShare} arg6.view.rep b0)
      ∗ (tb0.view.loc (c : Thread nD τ) ↦{fullShare.right} T0)
      ∗ (tb1.view.loc (c : Thread nD τ) ↦{fullShare.right} T1)
      ∗ (∃ d, owns (c : Thread nD τ) arg7 fullShare d)
      ∗ (∃ d, owns (c : Thread nD τ) sc0 fullShare d)
      ∗ (iprop((arg4.view.loc (c : Thread nD τ) ↦[arg4.view.set]{fullShare} arg4.view.rep x)
          ∗ (arg5.view.loc (c : Thread nD τ) ↦[arg5.view.set]{fullShare} arg5.view.rep w0)
          ∗ (arg6.view.loc (c : Thread nD τ) ↦[arg6.view.set]{fullShare} arg6.view.rep b0)
          ∗ (tb0.view.loc (c : Thread nD τ) ↦{fullShare.right} T0)
          ∗ (tb1.view.loc (c : Thread nD τ) ↦{fullShare.right} T1)
          ∗ owns (c : Thread nD τ) arg7 fullShare (outOf x (k0_pay7 w0) b0)
          ∗ owns (c : Thread nD τ) sc0 fullShare (k0_pay7 w0)) -∗ K ⟨⟩))
      ⊢ wp frame (wpE (defs₀ (F := F)) Variants.none c none) Set.univ
          (cc0_moe_down i tb0 (Memref.isWhole_whole _) tb1 (Memref.isWhole_whole _) arg4 harg4 arg5 harg5 arg6 harg6 arg7 harg7
            sc0 (Memref.isWhole_whole _)) K := by
  unfold owns
  rw [cc0_moe_down_eq_skeleton]; unfold cc0_moe_down_skel
  rw [k0_part1_eq_skeleton]; unfold k0_part1_skel
  iintro ⟨H0, H1, H2, HT0, HT1, ⟨%d3, %f3, -, H3⟩, ⟨%d4, %f4, -, HS0⟩, Hk⟩
  have hS0 : sc0.IsWhole := Memref.isWhole_whole _
  have hT0 : tb0.IsWhole := Memref.isWhole_whole _
  have hT1 : tb1.IsWhole := Memref.isWhole_whole _
  sl_exec! (disch := first | (guard_target = k0_cond1 _ _ = _; exact k0_h1) | (guard_target = Scalar.cmpi = _; exact hc1) | (guard_target = ¬(k0_cond3 _ _ = _); exact k0_h3))
  sl_step
  iapply Hk
  isplitl [H0]; · iexact H0
  isplitl [H1]; · iexact H1
  isplitl [H2]; · iexact H2
  isplitl [HT0]; · iexact HT0
  isplitl [HT1]; · iexact HT1
  isplitl [H3]
  · iexists _; isplitr
    swap; · iexact H3
    ipureintro
    unfold run_new.sl.H3_8
    refine (stored arg7 _ _ _ _).trans ?_
    unfold run_new.sl.v20 run_new.sl.HS0_1
    rw [View.readCov_full, View.readAt_rep_full, View.readAt_rep_full, View.readAt_rep_full]
  iexists _; isplitr
  swap; · iexact HS0
  ipureintro
  unfold run_new.sl.HS0_1
  refine (View.read_writes_full _ _ _ _ _).trans ?_
  rw [View.readAt_rep_full]

set_option maxHeartbeats 8000000 in
/-- A valid block whose expert is the one before's: the kept weight block is used as it is. -/
theorem run_keep (c : Dev nD) (i : grid0.Coords) (arg4 : Memref sig .tc .vmem S256x2048 .bf16) (harg4 : arg4.IsWhole)
    (arg5 : Memref sig .tc .vmem S1x2048x1024 .f32) (harg5 : arg5.IsWhole) (arg6 : Memref sig .tc .vmem S1x1x1024 .f32) (harg6 : arg6.IsWhole)
    (arg7 : Memref sig .tc .vmem S256x8x128 .f32) (harg7 : arg7.IsWhole)
    (T0 : S160.Idx → Elt F .i32) (T1 : S1.Idx → Elt F .i32)
    (x : Vec F S256x2048 .bf16) (w0 : Vec F S1x2048x1024 .f32) (b0 : Vec F S1x1x1024 .f32) (a0 : Vec F S2048x1024 .bf16)
    (k0_h1 : k0_cond1 i (wCount T1) = 1#1) (hc1 : ¬(wNew i T0 = 1#1)) (k0_h3 : ¬(k0_cond3 i (wCount T1) = 1#1))
    (K : PUnit → sProp 𝕄) :
    iprop((arg4.view.loc (c : Thread nD τ) ↦[arg4.view.set]{fullShare} arg4.view.rep x)
      ∗ (arg5.view.loc (c : Thread nD τ) ↦[arg5.view.set]{fullShare} arg5.view.rep w0)
      ∗ (arg6.view.loc (c : Thread nD τ) ↦[arg6.view.set]{fullShare} arg6.view.rep b0)
      ∗ (tb0.view.loc (c : Thread nD τ) ↦{fullShare.right} T0)
      ∗ (tb1.view.loc (c : Thread nD τ) ↦{fullShare.right} T1)
      ∗ (∃ d, owns (c : Thread nD τ) arg7 fullShare d)
      ∗ (sc0.view.loc (c : Thread nD τ) ↦[sc0.view.set]{fullShare} sc0.view.rep a0)
      ∗ (iprop((arg4.view.loc (c : Thread nD τ) ↦[arg4.view.set]{fullShare} arg4.view.rep x)
          ∗ (arg5.view.loc (c : Thread nD τ) ↦[arg5.view.set]{fullShare} arg5.view.rep w0)
          ∗ (arg6.view.loc (c : Thread nD τ) ↦[arg6.view.set]{fullShare} arg6.view.rep b0)
          ∗ (tb0.view.loc (c : Thread nD τ) ↦{fullShare.right} T0)
          ∗ (tb1.view.loc (c : Thread nD τ) ↦{fullShare.right} T1)
          ∗ owns (c : Thread nD τ) arg7 fullShare (outOf x a0 b0)
          ∗ (sc0.view.loc (c : Thread nD τ) ↦[sc0.view.set]{fullShare} sc0.view.rep a0)) -∗ K ⟨⟩))
      ⊢ wp frame (wpE (defs₀ (F := F)) Variants.none c none) Set.univ
          (cc0_moe_down i tb0 (Memref.isWhole_whole _) tb1 (Memref.isWhole_whole _) arg4 harg4 arg5 harg5 arg6 harg6 arg7 harg7
            sc0 (Memref.isWhole_whole _)) K := by
  unfold owns
  rw [cc0_moe_down_eq_skeleton]; unfold cc0_moe_down_skel
  rw [k0_part1_eq_skeleton]; unfold k0_part1_skel
  iintro ⟨H0, H1, H2, HT0, HT1, ⟨%d3, %f3, -, H3⟩, HS0, Hk⟩
  have hS0 : sc0.IsWhole := Memref.isWhole_whole _
  have hT0 : tb0.IsWhole := Memref.isWhole_whole _
  have hT1 : tb1.IsWhole := Memref.isWhole_whole _
  sl_exec! (disch := first | (guard_target = k0_cond1 _ _ = _; exact k0_h1) | (guard_target = ¬(Scalar.cmpi = _); exact hc1) | (guard_target = ¬(k0_cond3 _ _ = _); exact k0_h3) | exact hc1)
  sl_step
  iapply Hk
  isplitl [H0]; · iexact H0
  isplitl [H1]; · iexact H1
  isplitl [H2]; · iexact H2
  isplitl [HT0]; · iexact HT0
  isplitl [HT1]; · iexact HT1
  isplitl [H3]
  · iexists _; isplitr
    swap; · iexact H3
    ipureintro
    unfold run_keep.sl.H3_8
    refine (stored arg7 _ _ _ _).trans ?_
    rw [View.readAt_rep_full, View.readAt_rep_full, View.readAt_rep_full]
  iexact HS0

set_option maxHeartbeats 8000000 in
/-- A block past the valid ones: the output block is zeros, the kept weight block is left. -/
theorem run_past (c : Dev nD) (i : grid0.Coords) (arg4 : Memref sig .tc .vmem S256x2048 .bf16) (harg4 : arg4.IsWhole)
    (arg5 : Memref sig .tc .vmem S1x2048x1024 .f32) (harg5 : arg5.IsWhole) (arg6 : Memref sig .tc .vmem S1x1x1024 .f32) (harg6 : arg6.IsWhole)
    (arg7 : Memref sig .tc .vmem S256x8x128 .f32) (harg7 : arg7.IsWhole)
    (T0 : S160.Idx → Elt F .i32) (T1 : S1.Idx → Elt F .i32)
    (x : Vec F S256x2048 .bf16) (w0 : Vec F S1x2048x1024 .f32) (b0 : Vec F S1x1x1024 .f32) (a0 : Vec F S2048x1024 .bf16)
    (k0_h1 : ¬(k0_cond1 i (wCount T1) = 1#1)) (k0_h3 : k0_cond3 i (wCount T1) = 1#1)
    (K : PUnit → sProp 𝕄) :
    iprop((arg4.view.loc (c : Thread nD τ) ↦[arg4.view.set]{fullShare} arg4.view.rep x)
      ∗ (arg5.view.loc (c : Thread nD τ) ↦[arg5.view.set]{fullShare} arg5.view.rep w0)
      ∗ (arg6.view.loc (c : Thread nD τ) ↦[arg6.view.set]{fullShare} arg6.view.rep b0)
      ∗ (tb0.view.loc (c : Thread nD τ) ↦{fullShare.right} T0)
      ∗ (tb1.view.loc (c : Thread nD τ) ↦{fullShare.right} T1)
      ∗ (∃ d, owns (c : Thread nD τ) arg7 fullShare d)
      ∗ (sc0.view.loc (c : Thread nD τ) ↦[sc0.view.set]{fullShare} sc0.view.rep a0)
      ∗ (iprop((arg4.view.loc (c : Thread nD τ) ↦[arg4.view.set]{fullShare} arg4.view.rep x)
          ∗ (arg5.view.loc (c : Thread nD τ) ↦[arg5.view.set]{fullShare} arg5.view.rep w0)
          ∗ (arg6.view.loc (c : Thread nD τ) ↦[arg6.view.set]{fullShare} arg6.view.rep b0)
          ∗ (tb0.view.loc (c : Thread nD τ) ↦{fullShare.right} T0)
          ∗ (tb1.view.loc (c : Thread nD τ) ↦{fullShare.right} T1)
          ∗ owns (c : Thread nD τ) arg7 fullShare (k0_pay6 (F := F))
          ∗ (sc0.view.loc (c : Thread nD τ) ↦[sc0.view.set]{fullShare} sc0.view.rep a0)) -∗ K ⟨⟩))
      ⊢ wp frame (wpE (defs₀ (F := F)) Variants.none c none) Set.univ
          (cc0_moe_down i tb0 (Memref.isWhole_whole _) tb1 (Memref.isWhole_whole _) arg4 harg4 arg5 harg5 arg6 harg6 arg7 harg7
            sc0 (Memref.isWhole_whole _)) K := by
  unfold owns
  rw [cc0_moe_down_eq_skeleton]; unfold cc0_moe_down_skel
  rw [k0_part1_eq_skeleton]; unfold k0_part1_skel
  iintro ⟨H0, H1, H2, HT0, HT1, ⟨%d3, %f3, -, H3⟩, HS0, Hk⟩
  have hS0 : sc0.IsWhole := Memref.isWhole_whole _
  have hT0 : tb0.IsWhole := Memref.isWhole_whole _
  have hT1 : tb1.IsWhole := Memref.isWhole_whole _
  sl_exec! (disch := first | (guard_target = ¬(k0_cond1 _ _ = _); exact k0_h1) | (guard_target = k0_cond3 _ _ = _; exact k0_h3))
  sl_step
  iapply Hk
  isplitl [H0]; · iexact H0
  isplitl [H1]; · iexact H1
  isplitl [H2]; · iexact H2
  isplitl [HT0]; · iexact HT0
  isplitl [HT1]; · iexact HT1
  isplitl [H3]
  · iexists _; isplitr
    swap; · iexact H3
    ipureintro
    exact View.read_writes_full _ _ _ _ _
  iexact HS0

end Cert.Down

end
-- ==== Proof.Down.Body.lean ====
/-
  The second expert product's 320 grid points with the contents given point by point: a valid block's output is computed from
  its own rows, its expert's weight block (rounded) and its bias row, whether the weight block was taken at this
  point or kept from an earlier one of the same expert; a block past the valid ones is zeros.
-/
module

public import proofs.«01_k».proof.Proof.Down.Run

@[expose] public section

set_option maxRecDepth 16384

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-- The two tables' contents. -/
abbrev tab0 : S160.Idx → Elt F .i32 := a.1 0
abbrev tab1 : S1.Idx → Elt F .i32 := a.1 1

abbrev cfgA : Pipeline.Cfg sig Λ₀ := cfg0 (F := F) a

/-- A point's coordinates: the column block, then the row block. -/
abbrev crd (t : Fin (cfgA a).N) : grid0.Coords := (cfgA a).grid.coords t

/-- The arrays as the region finds them, after the host operations. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

abbrev ms0 (t : Fin (cfgA a).N) : Memref sig .tc .vmem S256x2048 .bf16 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x2048x1024 .f32 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S1x1x1024 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S256x8x128 .f32 := spec0_3.stage ((cfgA a).slots t (3 : Fin 4))
abbrev hs3 (t : Fin (cfgA a).N) : (ms3 a t).IsWhole := hstage0_3 (((cfgA a).slots t (3 : Fin 4)).cast nbuf0_3)

/-- A window's block at a point, read off its array. -/
def iblk (c : Dev nD) (w : Fin (cfgA a).W) (t : Fin (cfgA a).N) : (((cfgA a).win w).xblock (crd a t)).Idx → Elt F ((cfgA a).win w).elt :=
  (((cfgA a).win w).blk t).view.read (Elt F) (V m c (Pipeline.arrRef spec0 w))

/-- Whether a point's block is a valid one. -/
abbrev valid (t : Fin (cfgA a).N) : Prop := k0_cond1 (crd a t) (wCount (tab1 a)) = 1#1

/-- The weight block of a point, rounded. -/
def wgt0 (c : Dev nD) (t : Fin (cfgA a).N) : Vec F S2048x1024 .bf16 := k0_pay7 (iblk m a c (1 : Fin 4) t)

/-- What the output's block holds after a point. -/
def outAt (c : Dev nD) (t : Fin (cfgA a).N) : Vec F S256x8x128 .f32 :=
  if valid a t then outOf (iblk m a c (0 : Fin 4) t) (wgt0 m a c t) (iblk m a c (2 : Fin 4) t)
  else k0_pay6 (F := F)

/-- What is known of the kept block before point `n`: after a valid point it is that point's. -/
def kept (c : Dev nD) (n : ℕ) (a0 : Vec F S2048x1024 .bf16) : Prop :=
  ∀ t : Fin (cfgA a).N, n = t.val + 1 → valid a t → a0 = wgt0 m a c t

/-- What holds between points: the kept block, the generator's register, and the tables. -/
def inv (c : Dev nD) (n : ℕ) : sProp 𝕄 :=
  iprop((∃ a0, ⌜kept m a c n a0⌝ ∗ owns (c : Thread nD τ) sc0 fullShare a0)
    ∗ (∃ r, prngReg c r)
    ∗ (tb0.view.loc (c : Thread nD τ) ↦{fullShare.right} tab0 a) ∗ (tb1.view.loc (c : Thread nD τ) ↦{fullShare.right} tab1 a))

/-- The contents at every point. -/
def dats (_ : Fin 1) (c : Dev nD) : Dat τ (Elt F) Unit ℕ (UR sig nD τ) ℕ (cfgA a) c where
  A w := V m c (Pipeline.arrRef spec0 w)
  after w t := match w with
    | ⟨0, _⟩ => iblk m a c (0 : Fin 4) t
    | ⟨1, _⟩ => iblk m a c (1 : Fin 4) t
    | ⟨2, _⟩ => iblk m a c (2 : Fin 4) t
    | ⟨3, _⟩ => outAt m a c t
  Φ t := inv m a c t.val
  q w := Pipeline.shareOf spec0 w
  owed _ := 0

theorem holds_0 (c : Dev nD) (t : Fin (cfgA a).N) : (dats m a 0 c).after (0 : Fin 4) t = iblk m a c (0 : Fin 4) t := rfl
theorem holds_1 (c : Dev nD) (t : Fin (cfgA a).N) : (dats m a 0 c).after (1 : Fin 4) t = iblk m a c (1 : Fin 4) t := rfl
theorem holds_2 (c : Dev nD) (t : Fin (cfgA a).N) : (dats m a 0 c).after (2 : Fin 4) t = iblk m a c (2 : Fin 4) t := rfl
theorem holds_3 (c : Dev nD) (t : Fin (cfgA a).N) : (dats m a 0 c).after (3 : Fin 4) t = outAt m a c t := rfl

theorem found_0 (c : Dev nD) (t : Fin (cfgA a).N) (d) : (dats m a 0 c).before (0 : Fin 4) t d = iblk m a c (0 : Fin 4) t :=
  ((dats m a 0 c).before_in_eq_fetched (0 : Fin 4) rfl (fun _ => rfl) (fun _ _ _ => rfl)
    (fun t => by rw [holds_0]; unfold Dat.blockOf iblk; rfl) t d).trans (by unfold Dat.fetched Dat.blockOf iblk; rfl)
theorem found_1 (c : Dev nD) (t : Fin (cfgA a).N) (d) : (dats m a 0 c).before (1 : Fin 4) t d = iblk m a c (1 : Fin 4) t :=
  ((dats m a 0 c).before_in_eq_fetched (1 : Fin 4) rfl (fun _ => rfl) (fun _ _ _ => rfl)
    (fun t => by rw [holds_1]; unfold Dat.blockOf iblk; rfl) t d).trans (by unfold Dat.fetched Dat.blockOf iblk; rfl)
theorem found_2 (c : Dev nD) (t : Fin (cfgA a).N) (d) : (dats m a 0 c).before (2 : Fin 4) t d = iblk m a c (2 : Fin 4) t :=
  ((dats m a 0 c).before_in_eq_fetched (2 : Fin 4) rfl (fun _ => rfl) (fun _ _ _ => rfl)
    (fun t => by rw [holds_2]; unfold Dat.blockOf iblk; rfl) t d).trans (by unfold Dat.fetched Dat.blockOf iblk; rfl)

/-! ## The decisions at a point -/

theorem boolWord (b : Bool) : (Scalar.cmpi .ne (Scalar.extui (BitVec.ofBool b) : BitVec 32) 0#32 = 1#1) ↔ b = true := by
  cases b <;> decide

theorem orWord (p q : Bool) : Scalar.cmpi .ne (Scalar.extui (Scalar.ori (BitVec.ofBool p) (BitVec.ofBool q)) : BitVec 32) 0#32
    = Scalar.cmpi .ne (Scalar.extui (BitVec.ofBool (p || q)) : BitVec 32) 0#32 := by
  cases p <;> cases q <;> rfl

theorem cond1_iff (i : grid0.Coords) (v : BitVec 32) : k0_cond1 i v = 1#1 ↔ (BitVec.ofNat 32 (i 1).val).slt v = true :=
  boolWord _

theorem cond3_iff (i : grid0.Coords) (v : BitVec 32) : k0_cond3 i v = 1#1 ↔ ¬(k0_cond1 i v = 1#1) := by
  rw [cond1_iff]
  refine (boolWord (v.sle (BitVec.ofNat 32 (i 1).val))).trans ?_
  rw [BitVec.sle_iff_toInt_le, BitVec.slt_iff_toInt_lt]
  omega

/-- The output's window is stored at every point. -/
theorem live (t : Fin (cfgA a).N) : (cfgA a).idle (3 : Fin 4) ((cfgA a).grid.coords t) = false := by
  show (!(k0_cond1 (crd a t) (a.1.atD 1 ![0]) == 1#1) && !(k0_cond3 (crd a t) (a.1.atD 1 ![0]) == 1#1)) = false
  by_cases h : k0_cond1 (crd a t) (a.1.atD 1 ![0]) = 1#1
  · rw [h]; rfl
  · rw [(cond3_iff _ _).mpr h, Bool.and_eq_false_iff]; exact .inr rfl

theorem coord_lt (i : grid0.Coords) : (i 1).val < 160 := (i 1).isLt

theorem coord_word (i : grid0.Coords) : (BitVec.ofNat 32 (i 1).val).toNat = (i 1).val := by
  have := coord_lt i
  rw [BitVec.toNat_ofNat, Nat.mod_eq_of_lt (by omega)]

/-- The table's entry for a row block. -/
def at160 (b : ℕ) (h : b < 160) : S160.Idx := fun _ => ⟨b, by first | exact h | (rename_i k; match k with | ⟨0, _⟩ => exact h)⟩

theorem here_eq (i : grid0.Coords) (T0 : S160.Idx → Elt F .i32) : wHere i T0 = T0 (at160 (i 1).val (coord_lt i)) := by
  refine congrArg T0 (funext fun k => Fin.ext ?_)
  match k with
  | ⟨0, _⟩ =>
    show (BitVec.ofNat 32 (i 1).val).toNat + 1 * _ = (i 1).val
    rw [coord_word]
    rfl

theorem last_eq (i : grid0.Coords) (T0 : S160.Idx → Elt F .i32) (h : (i 1).val ≠ 0) :
    wLast i T0 = T0 (at160 ((i 1).val - 1) (by have := coord_lt i; omega)) := by
  have hlt := coord_lt i
  refine congrArg T0 (funext fun k => Fin.ext ?_)
  match k with
  | ⟨0, _⟩ =>
    show (Scalar.maxsi (Scalar.subi (BitVec.ofNat 32 (i 1).val) 1#32) 0#32 : BitVec 32).toNat + 1 * _ = (i 1).val - 1
    have e : (Scalar.subi (BitVec.ofNat 32 (i 1).val) 1#32 : BitVec 32) = BitVec.ofNat 32 ((i 1).val - 1) := by
      show BitVec.ofNat 32 (i 1).val - 1#32 = _
      apply BitVec.eq_of_toNat_eq
      rw [BitVec.toNat_sub, BitVec.toNat_ofNat, BitVec.toNat_ofNat, BitVec.toNat_ofNat]
      omega
    rw [e]
    have e2 : (Scalar.maxsi (BitVec.ofNat 32 ((i 1).val - 1)) 0#32 : BitVec 32) = BitVec.ofNat 32 ((i 1).val - 1) := by
      show (if (0#32).slt (BitVec.ofNat 32 ((i 1).val - 1)) then BitVec.ofNat 32 ((i 1).val - 1) else 0#32) = _
      split
      · rfl
      · rename_i hn
        rw [BitVec.slt_iff_toInt_lt, BitVec.toInt_eq_toNat_of_lt (x := BitVec.ofNat 32 ((i 1).val - 1)) (by rw [BitVec.toNat_ofNat]; omega),
          BitVec.toNat_ofNat, show (0#32 : BitVec 32).toInt = 0 from by decide] at hn
        have : (i 1).val - 1 = 0 := by
          simp only [Int.bmod_def] at hn
          omega
        rw [this]
    rw [e2, BitVec.toNat_ofNat]
    show _ + 1 * 0 = _
    omega

/-- Where the kept block is used, the point is not a column's first and its expert is the one before's. -/
theorem same_of_not_new (i : grid0.Coords) (T0 : S160.Idx → Elt F .i32) (h : ¬(wNew i T0 = 1#1)) :
    (i 1).val ≠ 0 ∧ wHere i T0 = wLast i T0 := by
  have e : wNew i T0 = Scalar.cmpi .ne (Scalar.extui (BitVec.ofBool ((BitVec.ofNat 32 (i 1).val == 0#32) || (wHere i T0 != wLast i T0))) : BitVec 32) 0#32 := by
    refine Eq.trans ?_ (orWord ((BitVec.ofNat 32 (i 1).val) == 0#32) (wHere i T0 != wLast i T0))
    rfl
  rw [e, boolWord] at h
  rw [Bool.or_eq_true, not_or] at h
  refine ⟨fun hz => h.1 ?_, ?_⟩
  · rw [hz]; rfl
  · by_contra hne
    exact h.2 (bne_iff_ne.mpr hne)

end Cert.Down

end
-- ==== Proof.Down.Point.lean ====
/-
  The body at each of the 320 points, and the run of the whole call.
-/
module

public import proofs.«01_k».proof.Proof.Down.Body
public import Idealize.ShloMosaic.Lib.Claim
public import Idealize.ShloMosaic.Lib.Pipeline.Quiescent

@[expose] public section

set_option maxRecDepth 16384

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-- The body at a point on its staging buffers. -/
abbrev bodyAt (t : Fin (cfgA a).N) : Prog (TpuEff nD τ sig (Elt F) Λ₀ .tc) PUnit :=
  cc0_moe_down (crd a t) tb0 (Memref.isWhole_whole _) tb1 (Memref.isWhole_whole _) (ms0 a t) (hs0 a t) (ms1 a t) (hs1 a t) (ms2 a t) (hs2 a t)
    (ms3 a t) (hs3 a t) sc0 (Memref.isWhole_whole _)

/-- What the body is called with. -/
def handed (c : Dev nD) (t : Fin (cfgA a).N) : sProp 𝕄 :=
  iprop(inv m a c t.val ∗ (dats m a 0 c).owesAt () t.castSucc
    ∗ (∃ d, owns (c : Thread nD τ) (ms0 a t) fullShare ((dats m a 0 c).before (0 : Fin 4) t d))
    ∗ (∃ d, owns (c : Thread nD τ) (ms1 a t) fullShare ((dats m a 0 c).before (1 : Fin 4) t d))
    ∗ (∃ d, owns (c : Thread nD τ) (ms2 a t) fullShare ((dats m a 0 c).before (2 : Fin 4) t d))
    ∗ (∃ d, owns (c : Thread nD τ) (ms3 a t) fullShare ((dats m a 0 c).before (3 : Fin 4) t d)))

/-- What it hands back. -/
def returned (c : Dev nD) (t : Fin (cfgA a).N) : sProp 𝕄 :=
  iprop(inv m a c (t.val + 1) ∗ (dats m a 0 c).owesAt () t.castSucc
    ∗ owns (c : Thread nD τ) (ms0 a t) fullShare (iblk m a c (0 : Fin 4) t)
    ∗ owns (c : Thread nD τ) (ms1 a t) fullShare (iblk m a c (1 : Fin 4) t)
    ∗ owns (c : Thread nD τ) (ms2 a t) fullShare (iblk m a c (2 : Fin 4) t)
    ∗ owns (c : Thread nD τ) (ms3 a t) fullShare (outAt m a c t))

theorem kept_here (c : Dev nD) (t : Fin (cfgA a).N) : kept m a c (t.val + 1) (wgt0 m a c t) := by
  intro t' h _
  have e : t' = t := Fin.ext (by omega)
  rw [e]

theorem kept_past (c : Dev nD) (t : Fin (cfgA a).N) (h : ¬valid a t) (a0 : Vec F S2048x1024 .bf16) : kept m a c (t.val + 1) a0 := by
  intro t' e hv
  rw [show t' = t from Fin.ext (by omega)] at hv
  exact absurd hv h

set_option maxHeartbeats 4000000 in
/-- The body at a valid block whose expert is new. -/
theorem body_new (c : Dev nD) (t : Fin (cfgA a).N) (hv : valid a t) (hn : wNew (crd a t) (tab0 a) = 1#1) :
    handed m a c t ⊢ wp frame (wpE (defs₀ (F := F)) Variants.none c none) Set.univ (bodyAt a t) (fun _ => returned m a c t) := by
  unfold handed returned bodyAt
  simp only [found_0, found_1, found_2]
  rw [show outAt m a c t = outOf (iblk m a c (0 : Fin 4) t) (wgt0 m a c t) (iblk m a c (2 : Fin 4) t) from if_pos hv]
  unfold inv
  iintro ⟨⟨⟨%a0, %hk, HS0⟩, Hg, HT0, HT1⟩, Ho, ⟨%d0, H0⟩, ⟨%d1, H1⟩, ⟨%d2, H2⟩, ⟨%d3, H3⟩⟩
  iapply (run_new c (crd a t) (ms0 a t) (hs0 a t) (ms1 a t) (hs1 a t) (ms2 a t) (hs2 a t) (ms3 a t) (hs3 a t)
    (tab0 a) (tab1 a) (iblk m a c (0 : Fin 4) t) (iblk m a c (1 : Fin 4) t) (iblk m a c (2 : Fin 4) t)
    hv hn (fun h => (cond3_iff _ _).mp h hv) _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexists _; iexact HS0
  iintro ⟨H0, H1, H2, HT0, HT1, H3, HS0⟩
  isplitl [HS0 Hg HT0 HT1]
  · isplitl [HS0]
    · iexists _; isplitr
      swap
      · iexact HS0
      ipureintro; exact kept_here m a c t
    isplitl [Hg]; · iexact Hg
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  iexact H3

set_option maxHeartbeats 4000000 in
/-- The body at a valid block whose expert is the one before's. -/
theorem body_keep (c : Dev nD) (t : Fin (cfgA a).N) (hv : valid a t) (hn : ¬(wNew (crd a t) (tab0 a) = 1#1))
    (hw : ∀ a0, kept m a c t.val a0 → a0 = wgt0 m a c t) :
    handed m a c t ⊢ wp frame (wpE (defs₀ (F := F)) Variants.none c none) Set.univ (bodyAt a t) (fun _ => returned m a c t) := by
  unfold handed returned bodyAt
  simp only [found_0, found_1, found_2]
  rw [show outAt m a c t = outOf (iblk m a c (0 : Fin 4) t) (wgt0 m a c t) (iblk m a c (2 : Fin 4) t) from if_pos hv]
  unfold inv
  iintro ⟨⟨⟨%a0, %hk, HS0⟩, Hg, HT0, HT1⟩, Ho, ⟨%d0, H0⟩, ⟨%d1, H1⟩, ⟨%d2, H2⟩, ⟨%d3, H3⟩⟩
  obtain rfl := hw a0 hk
  iapply (run_keep c (crd a t) (ms0 a t) (hs0 a t) (ms1 a t) (hs1 a t) (ms2 a t) (hs2 a t) (ms3 a t) (hs3 a t)
    (tab0 a) (tab1 a) (iblk m a c (0 : Fin 4) t) (iblk m a c (1 : Fin 4) t) (iblk m a c (2 : Fin 4) t)
    (wgt0 m a c t) hv hn (fun h => (cond3_iff _ _).mp h hv) _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iapply rep_of_owns; iexact HS0
  iintro ⟨H0, H1, H2, HT0, HT1, H3, HS0⟩
  isplitl [HS0 Hg HT0 HT1]
  · isplitl [HS0]
    · iexists _; isplitr
      swap
      · iapply owns_of_rep; iexact HS0
      ipureintro; exact kept_here m a c t
    isplitl [Hg]; · iexact Hg
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  iexact H3

set_option maxHeartbeats 4000000 in
/-- The body past the valid blocks. -/
theorem body_past (c : Dev nD) (t : Fin (cfgA a).N) (hv : ¬valid a t) :
    handed m a c t ⊢ wp frame (wpE (defs₀ (F := F)) Variants.none c none) Set.univ (bodyAt a t) (fun _ => returned m a c t) := by
  unfold handed returned bodyAt
  simp only [found_0, found_1, found_2]
  rw [show outAt m a c t = k0_pay6 (F := F) from if_neg hv]
  unfold inv
  iintro ⟨⟨⟨%a0, %hk, HS0⟩, Hg, HT0, HT1⟩, Ho, ⟨%d0, H0⟩, ⟨%d1, H1⟩, ⟨%d2, H2⟩, ⟨%d3, H3⟩⟩
  iapply (run_past c (crd a t) (ms0 a t) (hs0 a t) (ms1 a t) (hs1 a t) (ms2 a t) (hs2 a t) (ms3 a t) (hs3 a t)
    (tab0 a) (tab1 a) (iblk m a c (0 : Fin 4) t) (iblk m a c (1 : Fin 4) t) (iblk m a c (2 : Fin 4) t)
    a0 hv ((cond3_iff _ _).mpr hv) _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iapply rep_of_owns; iexact HS0
  iintro ⟨H0, H1, H2, HT0, HT1, H3, HS0⟩
  isplitl [HS0 Hg HT0 HT1]
  · isplitl [HS0]
    · iexists a0; isplitr
      swap
      · iapply owns_of_rep; iexact HS0
      ipureintro; exact kept_past m a c t hv a0
    isplitl [Hg]; · iexact Hg
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  iexact H3

end Cert.Down

end
-- ==== Proof.Down.Frame.lean ====
/-
  The run of the whole call: the index maps in words, the body at every point, the launch, and the argument arrays unchanged.
-/
module

public import proofs.«01_k».proof.Proof.Down.Point
public import Idealize.ShloMosaic.Lib.Claim
public import Idealize.ShloMosaic.Lib.Pipeline.Quiescent

@[expose] public section

set_option maxRecDepth 16384

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-! ## The index maps -/

theorem column_of : ∀ t : Fin grid0.N, (grid0.coords t 0).val = t.val / 160 := by decide +kernel
theorem row_of : ∀ t : Fin grid0.N, (grid0.coords t 1).val = t.val % 160 := by decide +kernel

/-- The expert of a row block. -/
abbrev expertAt (T0 : S160.Idx → Elt F .i32) (i : grid0.Coords) : BitVec 32 := T0 (at160 (i 1).val (coord_lt i))

section
variable (pf : pre0.Contents (Elt F)) (i : grid0.Coords)

theorem table_word : (pf.at 0 (Rect.unit (s := S160) ![(Scalar.indexCast (BitVec.ofNat 32 (i 1).val) : BitVec 32).toNat] S1.size (k0_off1_inb i)) numel1_S1 : BitVec 32)
    = expertAt (pf 0) i := by
  refine congrArg (pf 0) (funext fun k => Fin.ext ?_)
  match k with
  | ⟨0, _⟩ =>
    show (BitVec.ofNat 32 (i 1).val).toNat + 1 * _ = (i 1).val
    rw [coord_word]
    rfl

/-- The count of valid blocks. -/
abbrev countOf : BitVec 32 := pf.at 1 (Rect.unit (s := S1) ![0] S1.size inb_S1_S1_0) numel1_S1

theorem col_lt : (i 0).val < 2 := (i 0).isLt

theorem col_word : (BitVec.ofNat 32 (i 0).val).toNat = (i 0).val := by
  have := col_lt i
  rw [BitVec.toNat_ofNat, Nat.mod_eq_of_lt (by omega)]

theorem map_0 : cc0_transform_0 inb_S1_S1_0 numel1_S1 pf i
    = ![(Scalar.minsi (BitVec.ofNat 32 (i 1).val) (Scalar.subi (countOf pf) 1#32) : BitVec 32).toNat, 0] := rfl

theorem map_1 : cc0_transform_1 k0_off1_inb numel1_S1 pf i = ![(expertAt (pf 0) i).toNat, 0, (i 0).val] := by
  exact congrArg₂ (fun (w : ℕ) (j : ℕ) => (![w, 0, j] : Fin 3 → ℕ)) (congrArg BitVec.toNat (table_word pf i)) (col_word i)
theorem map_2 : cc0_transform_2 k0_off1_inb numel1_S1 pf i = ![(expertAt (pf 0) i).toNat, 0, (i 0).val] := by
  exact congrArg₂ (fun (w : ℕ) (j : ℕ) => (![w, 0, j] : Fin 3 → ℕ)) (congrArg BitVec.toNat (table_word pf i)) (col_word i)
theorem map_3 : cc0_transform_3 i = ![(i 1).val, (i 0).val, 0] := by
  exact congrArg₂ (fun (u v : ℕ) => (![u, v, 0] : Fin 3 → ℕ)) (coord_word i) (col_word i)

end

/-! ## A kept weight block is the point's own -/

theorem same_block_1 (c : Dev nD) (t t' : Fin (cfgA a).N)
    (h : cc0_transform_1 k0_off1_inb numel1_S1 a.1 (crd a t) = cc0_transform_1 k0_off1_inb numel1_S1 a.1 (crd a t')) :
    (iblk m a c (1 : Fin 4) t : Vec F S1x2048x1024 .f32) = iblk m a c (1 : Fin 4) t' := by
  funext q
  unfold iblk
  rw [View.read_apply, View.read_apply]
  refine congrArg (V m c main_v0) (funext fun k => Fin.ext ?_)
  show cc0_transform_1 k0_off1_inb numel1_S1 a.1 (crd a t) k * S1x2048x1024.size k + 1 * (q k).val
    = cc0_transform_1 k0_off1_inb numel1_S1 a.1 (crd a t') k * S1x2048x1024.size k + 1 * (q k).val
  rw [h]

/-- Where the expert is the one before's, the block kept from the point before is this point's own. -/
theorem kept_use (c : Dev nD) (t : Fin (cfgA a).N) (hv : valid a t) (hn : ¬(wNew (crd a t) (tab0 a) = 1#1)) (a0 : Vec F S2048x1024 .bf16)
    (hk : kept m a c t.val a0) : a0 = wgt0 m a c t := by
  obtain ⟨hb, hs⟩ := same_of_not_new (crd a t) (tab0 a) hn
  rw [here_eq, last_eq _ _ hb] at hs
  have r1 : (crd a t 1).val = t.val % 160 := row_of t
  have c1 : (crd a t 0).val = t.val / 160 := column_of t
  have hN : t.val < 320 := lt_of_lt_of_eq t.isLt (show (cfgA a).N = 320 from N_0)
  let t' : Fin (cfgA a).N := ⟨t.val - 1, by have := t.isLt; omega⟩
  have r2 : (crd a t' 1).val = (t.val - 1) % 160 := row_of t'
  have c2 : (crd a t' 0).val = (t.val - 1) / 160 := column_of t'
  have hb' : t.val % 160 ≠ 0 := r1 ▸ hb
  have hr : (crd a t' 1).val = (crd a t 1).val - 1 := by omega
  have hc : (crd a t' 0).val = (crd a t 0).val := by omega
  have hx : expertAt (a.1 0) (crd a t') = expertAt (a.1 0) (crd a t) := by
    refine Eq.trans ?_ hs.symm
    refine congrArg (tab0 a) (funext fun k => Fin.ext ?_)
    match k with
    | ⟨0, _⟩ => exact hr
  have hv' : valid a t' := by
    have h1 := (cond1_iff _ _).mp hv
    refine (cond1_iff _ _).mpr ?_
    rw [BitVec.slt_iff_toInt_lt] at h1 ⊢
    have q1 := coord_lt (crd a t)
    rw [BitVec.toInt_eq_toNat_of_lt (by rw [BitVec.toNat_ofNat]; omega), BitVec.toNat_ofNat] at h1 ⊢
    omega
  have e0 := hk t' (by show t.val = t.val - 1 + 1; omega) hv'
  have b1 := same_block_1 m a c t' t (by rw [map_1, map_1, hx, hc])
  exact e0.trans (congrArg k0_pay7 b1)

theorem body_any (c : Dev nD) (t : Fin (cfgA a).N) :
    handed m a c t ⊢ wp frame (wpE (defs₀ (F := F)) Variants.none c none) Set.univ (bodyAt a t) (fun _ => returned m a c t) := by
  by_cases hv : valid a t
  · by_cases hn : wNew (crd a t) (tab0 a) = 1#1
    · exact body_new m a c t hv hn
    · exact body_keep m a c t hv hn (kept_use m a c t hv hn)
  · exact body_past m a c t hv

theorem row_eq (t : Fin (cfgA a).N) : defs₀ (F := F) .tc (cfgA a).body ((cfgA a).bodyArgs t ((cfgA a).slots t)) = bodyAt a t := by
  unfold defs₀; rw [Defs.onTc_tc]

theorem phi_eq (c : Dev nD) (t : Fin ((cfgA a).N + 1)) : (dats m a 0 c).Φ t = inv m a c t.val := rfl
theorem owes_eq (c : Dev nD) (t : Fin (cfgA a).N) : (dats m a 0 c).owesAt () t.succ = (dats m a 0 c).owesAt () t.castSucc := rfl

set_option maxHeartbeats 400000 in
theorem sound (c : Dev nD) (t : Fin (cfgA a).N) :
    iprop((dats m a 0 c).Φ t.castSucc ∗ (dats m a 0 c).owesAt () t.castSucc
        ∗ (∃ d, owns (c : Thread nD τ) (ms0 a t) fullShare ((dats m a 0 c).before (0 : Fin 4) t d))
        ∗ (∃ d, owns (c : Thread nD τ) (ms1 a t) fullShare ((dats m a 0 c).before (1 : Fin 4) t d))
        ∗ (∃ d, owns (c : Thread nD τ) (ms2 a t) fullShare ((dats m a 0 c).before (2 : Fin 4) t d))
        ∗ (∃ d, owns (c : Thread nD τ) (ms3 a t) fullShare ((dats m a 0 c).before (3 : Fin 4) t d)))
      ⊢ wp frame (wpE (defs₀ (F := F)) Variants.none c none) Set.univ (bodyAt a t) fun _ =>
          iprop((dats m a 0 c).Φ t.succ ∗ (dats m a 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats m a 0 c).before w t d))
                  | true => owns (c : Thread nD τ) (((cfgA a).win w).stage ((cfgA a).slots t w)) fullShare ((dats m a 0 c).after w t)
                | false => owns (c : Thread nD τ) (((cfgA a).win w).stage ((cfgA a).slots t w)) fullShare ((dats m a 0 c).after w t)) := by
  rw [bigSep_W0]
  rewrite [live]
  have e1 : (dats m a 0 c).Φ t.succ = inv m a c (t.val + 1) := (phi_eq m a c t.succ).trans (congrArg (inv m a c) (Fin.val_succ t))
  have e2 : (dats m a 0 c).Φ t.castSucc = inv m a c t.val := (phi_eq m a c t.castSucc).trans (congrArg (inv m a c) (Fin.val_castSucc t))
  rewrite [e1, e2, owes_eq]
  simp only [holds_0, holds_1, holds_2, holds_3]
  have h := body_any m a c t
  unfold handed returned at h
  exact h

theorem obligation (c : Dev nD) : BodyObligation (dats m a 0 c) (defs₀ (F := F)) Variants.none () Set.univ := fun t => by
  rw [bigSep_W0]
  exact sound m a c t

/-! ## The launch -/

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

theorem rest_eq (c : Dev nD) : (Pipeline.ΦA spec0 c : sProp 𝕄)
    = iprop((∃ d, owns (c : Thread nD τ) sc0 fullShare d) ∗ ∃ r, prngReg c r) := by
  unfold Pipeline.ΦA; rw [scopedRest0_eq]; simp only [sc0, owns_whole]; try rfl

theorem enter (c : Dev nD) : iprop(Pipeline.ΦA spec0 c ∗ Pipeline.ΦT pre0 a.1 c) ⊢ (dats m a 0 c).Φ 0 := by
  rw [show (dats m a 0 c).Φ 0 = inv m a c 0 from rfl, rest_eq]
  unfold Pipeline.ΦT
  rw [prefHeld_eq]
  unfold inv
  iintro ⟨⟨⟨%a0, HS0⟩, Hg⟩, ⟨HT0, HT1⟩⟩
  isplitl [HS0]
  · iexists a0; isplitr
    swap
    · iexact HS0
    ipureintro; intro t h; omega
  isplitl [Hg]; · iexact Hg
  isplitl [HT0]; · iexact HT0
  iexact HT1

theorem leave (c : Dev nD) : (dats m a 0 c).Φ (Fin.last (cfgA a).N) ⊢ Pipeline.ΦA spec0 c := by
  rw [show (dats m a 0 c).Φ (Fin.last (cfgA a).N) = inv m a c (cfgA a).N from rfl, rest_eq]
  unfold inv
  iintro ⟨⟨%a0, -, HS0⟩, Hg, -, -⟩
  isplitl [HS0]
  · iexists _; iexact HS0
  iexact Hg

/-- No host operation writes an argument. -/
theorem keeps_0 (c : Dev nD) : V m c main_arg0 = m ((c.tc : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem keeps_1 (c : Dev nD) : V m c main_arg1 = m ((c.tc : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem keeps_2 (c : Dev nD) : V m c main_arg2 = m ((c.tc : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem keeps_3 (c : Dev nD) : V m c main_arg3 = m ((c.tc : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem keeps_4 (c : Dev nD) : V m c main_arg4 = m ((c.tc : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- The tables the pipeline runs at are the memory's. -/
def Holds : Prop := ∀ (c : Dev nD) (k : Fin 2), m ((c.tc : Thread nD τ).loc (pre0.ref k)) = a.1 k

theorem tables_held (h : Holds m a) (c : Dev nD) (k : Fin 2) : V m c (pre0.ref k) = a.1 k := by
  refine Eq.trans ?_ (h c k)
  match k with
  | ⟨0, _⟩ => exact keeps_0 m c
  | ⟨1, _⟩ => exact keeps_1 m c

set_option backward.isDefEq.respectTransparency.types false in
/-- The launch: every array ends at what the point-by-point contents say, every semaphore counter at zero. -/
theorem launched (h : Holds m a) : θ_run defs (onTc (τ := τ) (main (F := F))) (s₀ m ρ)
    (fun r => (Pipeline.FramePost (Pipeline.pin (pcfgs (F := F)) fun _ => a) (dats m a) 0 (V m)) r ∧ r.2.sem = fun _ => 0) :=
  Pipeline.θ_run_frameP_track_shared (Q' := _) pcfgs (fun _ => a) (dats m a) (0 : Fin 1) launch0.to₀ defs₀ Variants.none m ρ main
    (hbody := fun c => (obligation m a c).loose) (hq := fun _ _ _ => rfl) (howed := fun _ _ => rfl) (V := V m)
    (hmain := Pipeline.hmainP_prefix pcfgs 0 defs₀ Variants.none m main hostOps0 hostOps0_sub host_fresh main_chain)
    (hA := fun _ _ => rfl) (hpf := tables_held m a h) (hin := enter m a) (hout := leave m a)

/-- The frame: the argument arrays end unchanged and every counter is zero. -/
theorem framed (h : Holds m a) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c =>
    ⟨((hr.1 c).2 main_arg0 (Pipeline.mem_restRefs_of main_arg0 (by decide) (by decide : ∀ w : Fin 4, (spec0 w).arr.view.ref ≠ main_arg0))).trans (keeps_0 m c),
     ((hr.1 c).2 main_arg1 (Pipeline.mem_restRefs_of main_arg1 (by decide) (by decide : ∀ w : Fin 4, (spec0 w).arr.view.ref ≠ main_arg1))).trans (keeps_1 m c),
     ((hr.1 c).1 (0 : Fin 4)).trans (((dats m a 0 c).arrAt_in (0 : Fin 4) rfl _).trans (keeps_2 m c)),
     ((hr.1 c).2 main_arg3 (Pipeline.mem_restRefs_of main_arg3 (by decide) (by decide : ∀ w : Fin 4, (spec0 w).arr.view.ref ≠ main_arg3))).trans (keeps_3 m c),
     ((hr.1 c).2 main_arg4 (Pipeline.mem_restRefs_of main_arg4 (by decide) (by decide : ∀ w : Fin 4, (spec0 w).arr.view.ref ≠ main_arg4))).trans (keeps_4 m c)⟩, hr.2⟩) (launched m ρ a h)

/-! ## Tables the region admits -/

/-- Experts in range and at least one valid block. -/
def Good (pf : pre0.Contents (Elt F)) : Prop :=
  (∀ b : S160.Idx, (pf 0 b : BitVec 32).toNat < 32) ∧ ∀ k : S1.Idx, 1 ≤ (pf 1 k : BitVec 32).toInt

theorem low_le (b : ℕ) (hb : b < 160) (v : BitVec 32) (h : 1 ≤ v.toInt) :
    (Scalar.minsi (BitVec.ofNat 32 b) (Scalar.subi v 1#32) : BitVec 32).toNat ≤ b := by
  show (if (BitVec.ofNat 32 b).slt (v - 1#32) then BitVec.ofNat 32 b else v - 1#32 : BitVec 32).toNat ≤ b
  split
  · rw [BitVec.toNat_ofNat]; omega
  · rename_i hn
    rw [BitVec.slt_iff_toInt_lt, BitVec.toInt_eq_toNat_cond, BitVec.toInt_eq_toNat_cond, BitVec.toNat_sub, BitVec.toNat_ofNat, BitVec.toNat_ofNat] at hn
    rw [BitVec.toInt_eq_toNat_cond] at h
    have := v.isLt
    rw [BitVec.toNat_sub, BitVec.toNat_ofNat]
    split at h <;> split at hn <;> (try split at hn) <;> omega

theorem ok_of_good (pf : pre0.Contents (Elt F)) (h : Good pf) : ok0 pf := by
  refine ⟨fun i => ?_, fun i => ?_, fun i => ?_⟩
  · have h1 := coord_lt i
    have hl := low_le (i 1).val h1 _ (show 1 ≤ (countOf pf).toInt from h.2 _)
    refine ⟨fun k => ?_, .inr (Affine.block_words_dvd (s := S40960x2048) (p := EltTy.packing .bf16) (by decide) (by decide))⟩
    rw [map_0]
    match k with
    | ⟨0, _⟩ => show ((Scalar.minsi (BitVec.ofNat 32 (i 1).val) (Scalar.subi (countOf pf) 1#32) : BitVec 32).toNat + 1) * 256 ≤ 40960; omega
    | ⟨1, _⟩ => show (0 + 1) * 2048 ≤ 2048; omega
  all_goals
    have h0 : (expertAt (pf 0) i).toNat < 32 := h.1 _
    have h1 := col_lt i
    refine ⟨fun k => ?_, .inl rfl⟩
    first | rw [map_1] | rw [map_2]
  · match k with
    | ⟨0, _⟩ => show ((expertAt (pf 0) i).toNat + 1) * 1 ≤ 32; omega
    | ⟨1, _⟩ => show (0 + 1) * 2048 ≤ 2048; omega
    | ⟨2, _⟩ => show ((i 0).val + 1) * 1024 ≤ 2048; omega
  · match k with
    | ⟨0, _⟩ => show ((expertAt (pf 0) i).toNat + 1) * 1 ≤ 32; omega
    | ⟨1, _⟩ => show (0 + 1) * 1 ≤ 1; omega
    | ⟨2, _⟩ => show ((i 0).val + 1) * 1024 ≤ 2048; omega

end Cert.Down

end
-- ==== Proof.Down.Tables.lean ====
/-
  What the precondition says of the two tables, and the tables a memory that satisfies it hands to the kernel.
-/
module

public import proofs.«01_k».proof.Proof.Down.Frame
public import proofs.«01_k».proof.Proof.Gen.Pre_tables3
public import Idealize.ShloMosaic.Lib.ReduceAll

@[expose] public section

set_option maxRecDepth 16384

noncomputable section

namespace Cert.Down

open Cert.Kernel3Ideal Cert.Kernel3Ideal.Gen
open Idealize.ShloMosaic Idealize.ShloMosaic.TcCoe Idealize.SL.Sem

variable {F : FTy → Type} [FloatOps F]

/-- The precondition, read: every expert is one of the 32, and at least one block is valid. -/
theorem ranges (T0 : IVec S160 32) (T1 : IVec S1 32) (x : FVec F S40960x2048 .bf16) (w : FVec F S1x32x2048x2048 .f32) (b : FVec F S1x32x2048 .f32)
    (h : Cert.Pre_tables3.fn T0 T1 x w b = fun _ => 1#1) : (∀ i, (T0 i).toNat < 32) ∧ ∀ k, 1 ≤ (T1 k).toInt := by
  have e := congrFun h (fun a => a.elim0)
  unfold Cert.Pre_tables3.fn at e
  obtain ⟨e0, e1⟩ := IntOp.andi_eq_one.mp e
  constructor
  · intro i
    obtain ⟨l, u⟩ := IntOp.andi_eq_one.mp (Host.reduce_andi_all (t := Cert.Pre_tables3.S_) _ _ _ _ _ e0 i)
    have l' : (0 : ℤ) ≤ (T0 i).toInt := IntOp.cmpi_sge.mp l
    have u' : (T0 i).toInt < 32 := IntOp.cmpi_slt.mp u
    rw [BitVec.toInt_eq_toNat_cond] at l' u'
    have := (T0 i).isLt
    split at l' <;> split at u' <;> omega
  · intro k
    have q : (1 : ℤ) ≤ (shapeCast Cert.Pre_tables3.S_ T1 Cert.Pre_tables3.Gen.shapeCasts_S1_S_ (fun a => a.elim0)).toInt := IntOp.cmpi_sge.mp e1
    have : shapeCast Cert.Pre_tables3.S_ T1 Cert.Pre_tables3.Gen.shapeCasts_S1_S_ (fun a => a.elim0) = T1 k :=
      congrArg T1 (funext fun a => match a with | ⟨0, _⟩ => Subsingleton.elim (α := Fin 1) _ _)
    rw [← this]
    exact q

variable (m : (ℓ : Loc nD τ sig) → Buf (Elt F) ℓ)

/-- The tables the memory holds. -/
def tablesOf : pre0.Contents (Elt F) := fun k => m (((0 : Dev nD).tc : Thread nD τ).loc (pre0.ref k))

/-- The tables, admitted. -/
def admitted (h : Good (tablesOf m)) : (pcfg0 (F := F)).Adm := ⟨tablesOf m, ok_of_good _ h⟩

theorem admitted_holds (h : Good (tablesOf m)) : Holds m (admitted m h) := by
  intro c k
  obtain rfl : c = 0 := Subsingleton.elim _ _
  rfl

theorem good_of (h : ∀ c : Dev nD, Cert.Pre_tables3.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1) :
    Good (tablesOf m) := ranges _ _ _ _ _ (h 0)

end Cert.Down

end
-- ==== Proof.Down.Reference.lean ====
/-
  The down reference at an entry, at the exact real-valued operations: a valid block's row against its expert's
  column, with the bias; zero past the valid blocks.
-/
module

public import proofs.«01_k».proof.Proof.Gen.Reference3Ideal.Run
public import Idealize.ShloMosaic.Lib.Pointwise

@[expose] public section

set_option maxRecDepth 16384

noncomputable section

namespace Cert.Down

open Idealize.ShloMosaic Idealize.ShloMosaic.TcCoe

/-- A row against a column, and the bias. -/
def affine (x w : Fin 2048 → EReal) (b : EReal) : EReal := (∑ k, x k * w k) + b

namespace Ref

open Cert.Reference3Ideal Cert.Reference3Ideal.Gen

variable (T0 : IVec S160 32) (T1 : IVec S1 32) (x : FVec Ideal S40960x2048 .bf16) (w : FVec Ideal S1x32x2048x2048 .f32) (b : FVec Ideal S1x32x2048 .f32)

/-- The experts of the blocks, as the reference looks them up. -/
def experts : IVec S160x1 32 :=
  broadcastInDim S160x1 ![0] bcast_S160_S160x1_0 (select (cmpi .slt T0 (broadcastInDim S160 ![] bcast_S_S160 (constantI S_ 32 0#32))) (addi T0 (broadcastInDim S160 ![] bcast_S_S160 (constantI S_ 32 32#32))) T0)

/-- The rows, by blocks. -/
def rows : FVec Ideal S160x256x2048 .f32 := shapeCast S160x256x2048 (extf .f32 x bitsLt_bf16_f32) shapeCasts_S40960x2048_S160x256x2048

/-- Every block's weights. -/
def weights : FVec Ideal S160x2048x2048 .f32 :=
  Host.gather gather_S32x2048x2048_S160x1_S160x2048x2048_12_0_n_n_0_1_120482048 (shapeCast S32x2048x2048 w shapeCasts_S1x32x2048x2048_S32x2048x2048) (experts T0)

/-- Every block's biases. -/
def biases : FVec Ideal S160x2048 .f32 :=
  Host.gather gather_S32x2048_S160x1_S160x2048_1_0_n_n_0_1_12048 (shapeCast S32x2048 b shapeCasts_S1x32x2048_S32x2048) (experts T0)

/-- Every block's rows against its expert's weights, with the bias. -/
def sums : FVec Ideal S160x256x2048 .f32 :=
  addf (Host.dotGeneral dot_S160x256x2048_S160x2048x2048_S160x256x2048_2_1_1_2_0_0 none (rows x) (weights T0 w))
    (broadcastInDim S160x256x2048 ![0, 1, 2] bcast_S160x1x2048_S160x256x2048_0_1_2 (broadcastInDim S160x1x2048 ![0, 2] bcast_S160x2048_S160x1x2048_0_2 (biases T0 b)))

/-- Which blocks are valid. -/
def used : IVec S160x256x2048 1 :=
  broadcastInDim S160x256x2048 ![0, 1, 2] bcast_S160x1x1_S160x256x2048_0_1_2 (broadcastInDim S160x1x1 ![0] bcast_S160_S160x1x1_0 (cmpi .slt (iotaInDim S160 32 0) (broadcastInDim S160 ![] bcast_S_S160 (shapeCast S_ T1 shapeCasts_S1_S_))))

/-- The result. -/
def result : FVec Ideal S40960x16x128 .f32 :=
  shapeCast S40960x16x128 (select (used T1) (sums T0 x w b) (broadcastInDim S160x256x2048 ![] bcast_S_S160x256x2048 (constant S_ .f32 0x00000000#32))) shapeCasts_S160x256x2048_S40960x16x128

variable {α : Type}

theorem gather3 (y : S32x2048x2048.Idx → α) (i : IVec S160x1 32) (q : Fin 160) (k : Fin 2048) (l : Fin 2048) :
    Host.gather gather_S32x2048x2048_S160x1_S160x2048x2048_12_0_n_n_0_1_120482048 y i (ValueIdx.ix3 q k l)
      = y (ValueIdx.ix3 ⟨min (i (ValueIdx.ix2 q 0)).toInt.toNat 31, by omega⟩ k l) := by
  unfold Host.gather
  refine congrArg y (funext fun a => Fin.ext ?_)
  match a with
  | ⟨0, _⟩ => show min (i _).toInt.toNat 31 + 0 + 0 = min (i _).toInt.toNat 31
              refine congrArg (fun j => min (i j).toInt.toNat 31) (funext fun a => Fin.ext ?_)
              match a with
              | ⟨0, _⟩ => rfl
              | ⟨1, _⟩ => rfl
  | ⟨1, _⟩ => show 0 + 0 + k.val = k.val
              omega
  | ⟨2, _⟩ => show 0 + 0 + l.val = l.val
              omega

theorem gather2 (y : S32x2048.Idx → α) (i : IVec S160x1 32) (q : Fin 160) (l : Fin 2048) :
    Host.gather gather_S32x2048_S160x1_S160x2048_1_0_n_n_0_1_12048 y i (ValueIdx.ix2 q l)
      = y (ValueIdx.ix2 ⟨min (i (ValueIdx.ix2 q 0)).toInt.toNat 31, by omega⟩ l) := by
  unfold Host.gather
  refine congrArg y (funext fun a => Fin.ext ?_)
  match a with
  | ⟨0, _⟩ => show min (i _).toInt.toNat 31 + 0 + 0 = min (i _).toInt.toNat 31
              refine congrArg (fun j => min (i j).toInt.toNat 31) (funext fun a => Fin.ext ?_)
              match a with
              | ⟨0, _⟩ => rfl
              | ⟨1, _⟩ => rfl
  | ⟨1, _⟩ => show 0 + 0 + l.val = l.val
              omega

/-- An expert in range is looked up as it is. -/
theorem experts_entry (q : Fin 160) (e : Fin 32) (h : (T0 (ValueIdx.ix1 q)).toNat = e.val) :
    (⟨min (experts T0 (ValueIdx.ix2 q 0)).toInt.toNat 31, by omega⟩ : Fin 32) = e := by
  have he : experts T0 (ValueIdx.ix2 q 0) = Scalar.select (IntOp.cmpi .slt (T0 (ValueIdx.ix1 q)) 0#32) (T0 (ValueIdx.ix1 q) + 32#32) (T0 (ValueIdx.ix1 q)) := by
    pointwise [experts]
    try rfl
  have hi : (T0 (ValueIdx.ix1 q)).toInt = e.val := by
    have := e.isLt
    rw [BitVec.toInt_eq_toNat_of_lt (by omega), h]
  have hs : IntOp.cmpi .slt (T0 (ValueIdx.ix1 q)) 0#32 = 0#1 := by
    rcases BitVec.eq_zero_or_eq_one (IntOp.cmpi .slt (T0 (ValueIdx.ix1 q)) 0#32) with h0 | h1
    · exact h0
    · have h2 := IntOp.cmpi_slt.mp h1
      have : (0#32 : BitVec 32).toInt = 0 := by decide
      omega
  refine Fin.ext ?_
  show min (experts T0 (ValueIdx.ix2 q 0)).toInt.toNat 31 = e.val
  rw [he, hs]
  show min (T0 (ValueIdx.ix1 q)).toInt.toNat 31 = e.val
  have := e.isLt
  rw [hi]
  omega

/-- A block's row, among all the rows. -/
def rowOf (q : Fin 160) (p : Fin 256) : Fin 40960 := ⟨q.val * 256 + p.val, by omega⟩

theorem rows_entry (q : Fin 160) (p : Fin 256) (k : Fin 2048) : rows x (ValueIdx.ix3 q p k) = x (ValueIdx.ix2 (rowOf q p) k) := by
  pointwise [rows]
  try rfl

theorem sums_entry (q : Fin 160) (p : Fin 256) (l : Fin 2048) (e : Fin 32) (h : (T0 (ValueIdx.ix1 q)).toNat = e.val) :
    sums T0 x w b (ValueIdx.ix3 q p l)
      = affine (fun k => x (ValueIdx.ix2 (rowOf q p) k)) (fun k => w (ValueIdx.ix4 0 e k l)) (b (ValueIdx.ix3 0 e l)) := by
  have e1 : sums T0 x w b (ValueIdx.ix3 q p l)
      = (∑ k : Fin 2048, rows x (ValueIdx.ix3 q p k) * weights T0 w (ValueIdx.ix3 q k l)) + biases T0 b (ValueIdx.ix2 q l) := by
    unfold sums
    generalize rows x = z
    generalize weights T0 w = z'
    generalize biases T0 b = z''
    pointwise
    try rfl
  rw [e1]
  unfold affine
  have e2 : biases T0 b (ValueIdx.ix2 q l) = b (ValueIdx.ix3 0 e l) := by
    unfold biases
    rw [gather2, experts_entry T0 q e h]
    pointwise
    try rfl
  rw [e2]
  refine congrArg (· + _) (Finset.sum_congr rfl fun k _ => ?_)
  rw [rows_entry]
  refine congrArg (x (ValueIdx.ix2 (rowOf q p) k) * ·) ?_
  unfold weights
  rw [gather3, experts_entry T0 q e h]
  pointwise
  try rfl

theorem used_entry (q : Fin 160) (p : Fin 256) (j : Fin 2048) :
    used T1 (ValueIdx.ix3 q p j) = IntOp.cmpi .slt (BitVec.ofNat 32 q.val) (T1 (ValueIdx.ix1 0)) := by
  pointwise [used]
  try rfl

/-- The column of a result's entry. -/
def colAt (r : Fin 16) (l : Fin 128) : Fin 2048 := ⟨r.val * 128 + l.val, by omega⟩

theorem result_entry (q : Fin 160) (p : Fin 256) (r : Fin 16) (l : Fin 128) :
    result T0 T1 x w b (ValueIdx.ix3 (rowOf q p) r l)
      = Scalar.select (IntOp.cmpi .slt (BitVec.ofNat 32 q.val) (T1 (ValueIdx.ix1 0))) (sums T0 x w b (ValueIdx.ix3 q p (colAt r l))) 0 := by
  rw [← used_entry T1 q p (colAt r l)]
  unfold result
  generalize sums T0 x w b = z
  generalize used T1 = z'
  have e : ∀ (h0 : (rowOf q p).val / 256 < 160) (h1 : (rowOf q p).val % 256 < 256),
      (ValueIdx.ix3 ⟨(rowOf q p).val / 256, h0⟩ ⟨(rowOf q p).val % 256, h1⟩ (colAt r l) : S160x256x2048.Idx) = ValueIdx.ix3 q p (colAt r l) := by
    intro h0 h1
    have hq : (⟨(rowOf q p).val / 256, h0⟩ : Fin 160) = q := Fin.ext (by show (q.val * 256 + p.val) / 256 = q.val; omega)
    have hp : (⟨(rowOf q p).val % 256, h1⟩ : Fin 256) = p := Fin.ext (by show (q.val * 256 + p.val) % 256 = p.val; omega)
    rw [hq, hp]
  pointwise
  exact congrArg (fun i => Scalar.select (z' i) (z i) 0) (e _ _)

end Ref

end Cert.Down

end
-- ==== Proof.Down.Value.lean ====
/-
  The down kernel at an entry: what a point's blocks are of the arguments, what the point leaves in the output, and that
  the result array is the reference's.
-/
module

public import proofs.«01_k».proof.Proof.Down.Tables
public import proofs.«01_k».proof.Proof.Down.Reference
public import Idealize.ShloMosaic.Lib.Pipeline.Value

@[expose] public section

set_option maxRecDepth 16384

noncomputable section

namespace Cert.Down

open Cert.Kernel3Ideal Cert.Kernel3Ideal.Gen
open Idealize.ShloMosaic Idealize.ShloMosaic.TcCoe Idealize.SL.Sem
open Cert.Down.Ref (rowOf colAt)

/-! ## A point's payloads -/

section
variable (x : Vec Ideal S256x2048 .bf16) (a0 : Vec Ideal S2048x1024 .bf16) (b0 : Vec Ideal S1x1x1024 .f32)

/-- The column, in a point's block of columns, of an entry of the output's block. -/
def colIn (r : Fin 8) (l : Fin 128) : Fin 1024 := ⟨r.val * 128 + l.val, by omega⟩

theorem rounded_weights (v : Vec Ideal S1x2048x1024 .f32) (k : Fin 2048) (j : Fin 1024) : k0_pay7 v (ValueIdx.ix2 k j) = v (ValueIdx.ix3 0 k j) := by
  pointwise [k0_pay7]
  try rfl

theorem sum_tile (p : Fin 256) (j : Fin 1024) :
    k0_pay8 x a0 b0 (ValueIdx.ix2 p j) = affine (fun k => x (ValueIdx.ix2 p k)) (fun k => a0 (ValueIdx.ix2 k j)) (b0 (ValueIdx.ix3 0 0 j)) := by
  unfold affine
  pointwise [k0_pay8]
  try rfl

theorem out_tile (p : Fin 256) (r : Fin 8) (l : Fin 128) :
    outOf x a0 b0 (ValueIdx.ix3 p r l)
      = affine (fun k => x (ValueIdx.ix2 p k)) (fun k => a0 (ValueIdx.ix2 k (colIn r l))) (b0 (ValueIdx.ix3 0 0 (colIn r l))) :=
  (show outOf x a0 b0 (ValueIdx.ix3 p r l) = k0_pay8 x a0 b0 (ValueIdx.ix2 p (colIn r l)) from rfl).trans (sum_tile x a0 b0 p (colIn r l))

theorem past_tile (p : Fin 256) (r : Fin 8) (l : Fin 128) : k0_pay6 (F := Ideal) (ValueIdx.ix3 p r l) = 0 := by
  pointwise [k0_pay6]
  try rfl

end

/-! ## The host's arrays -/

variable (m : (ℓ : Loc nD τ sig) → Buf (Elt Ideal) ℓ) (a : (pcfg0 (F := Ideal)).Adm) (c : Dev nD)

theorem weights_cast (w : FVec Ideal S1x32x2048x2048 .f32) (e : Fin 32) (k : Fin 2048) (l : Fin 2048) :
    shapeCast S32x2048x2048 w shapeCasts_S1x32x2048x2048_S32x2048x2048 (ValueIdx.ix3 e k l) = w (ValueIdx.ix4 0 e k l) := by
  pointwise
  try rfl

theorem bias_cast (b : FVec Ideal S1x32x2048 .f32) (e : Fin 32) (l : Fin 2048) :
    shapeCast S32x1x2048 (shapeCast S32x2048 b shapeCasts_S1x32x2048_S32x2048) shapeCasts_S32x2048_S32x1x2048 (ValueIdx.ix3 e 0 l) = b (ValueIdx.ix3 0 e l) := by
  pointwise
  try rfl

theorem weights_entry (e : Fin 32) (k : Fin 2048) (l : Fin 2048) :
    V m c main_v0 (ValueIdx.ix3 e k l) = m ((c.tc : Thread nD τ).loc main_arg3) (ValueIdx.ix4 0 e k l) := by
  have h : (V m c main_v0 : FVec Ideal S32x2048x2048 .f32) = shapeCast S32x2048x2048 (m ((c.tc : Thread nD τ).loc main_arg3)) shapeCasts_S1x32x2048x2048_S32x2048x2048 := by
    show StableHlo.after hostOps0 _ (Proc.devRef .tc main_v0) = _
    after_results <;> rfl
  exact (congrFun h _).trans (weights_cast _ e k l)

theorem bias_entry (e : Fin 32) (l : Fin 2048) :
    V m c main_v2 (ValueIdx.ix3 e 0 l) = m ((c.tc : Thread nD τ).loc main_arg4) (ValueIdx.ix3 0 e l) := by
  have h : (V m c main_v2 : FVec Ideal S32x1x2048 .f32) = shapeCast S32x1x2048 (shapeCast S32x2048 (m ((c.tc : Thread nD τ).loc main_arg4)) shapeCasts_S1x32x2048_S32x2048) shapeCasts_S32x2048_S32x1x2048 := by
    show StableHlo.after hostOps0 _ (Proc.devRef .tc main_v2) = _
    after_results <;> rfl
  exact (congrFun h _).trans (bias_cast _ e l)

/-! ## A point's blocks of the arguments -/

/-- The point that computes a row block's columns `1024 j …`. -/
def pointOf (q : Fin 160) (j : Fin 2) : Fin (cfgA a).N := ⟨j.val * 160 + q.val, lt_of_lt_of_eq (by omega) (show 320 = (cfgA a).N from N_0.symm)⟩

theorem point_row (q : Fin 160) (j : Fin 2) : (crd a (pointOf a q j) 1).val = q.val :=
  (row_of (pointOf a q j)).trans (by show (j.val * 160 + q.val) % 160 = q.val; omega)

theorem point_column (q : Fin 160) (j : Fin 2) : (crd a (pointOf a q j) 0).val = j.val :=
  (column_of (pointOf a q j)).trans (by show (j.val * 160 + q.val) / 160 = j.val; omega)

/-- A column of a point. -/
def colOf (j : Fin 2) (l : Fin 1024) : Fin 2048 := ⟨j.val * 1024 + l.val, by omega⟩

/-- A group of columns of a point, among all the groups. -/
def groupOf (j : Fin 2) (r : Fin 8) : Fin 16 := ⟨j.val * 8 + r.val, by omega⟩

theorem column (j : Fin 2) (r : Fin 8) (l : Fin 128) : colAt (groupOf j r) l = colOf j (colIn r l) :=
  Fin.ext (by show (j.val * 8 + r.val) * 128 + l.val = j.val * 1024 + (r.val * 128 + l.val); omega)

theorem expert_of (q : Fin 160) (j : Fin 2) : expertAt (a.1 0) (crd a (pointOf a q j)) = (tab0 a (ValueIdx.ix1 q) : BitVec 32) := by
  refine congrArg (tab0 a) (funext fun k => Fin.ext ?_)
  match k with
  | ⟨0, _⟩ => exact point_row a q j

theorem count_of : (countOf a.1 : BitVec 32) = (tab1 a (ValueIdx.ix1 0) : BitVec 32) := by
  refine congrArg (tab1 a) (funext fun k => ?_)
  match k with
  | ⟨0, _⟩ => exact Subsingleton.elim (α := Fin 1) _ _

theorem count_word : (wCount (tab1 a) : BitVec 32) = (tab1 a (ValueIdx.ix1 0) : BitVec 32) := by
  refine congrArg (tab1 a) (funext fun k => ?_)
  match k with
  | ⟨0, _⟩ => exact Subsingleton.elim (α := Fin 1) _ _

theorem valid_iff (q : Fin 160) (j : Fin 2) :
    valid a (pointOf a q j) ↔ IntOp.cmpi .slt (BitVec.ofNat 32 q.val) (tab1 a (ValueIdx.ix1 0) : BitVec 32) = 1#1 := by
  unfold valid
  rw [cond1_iff, count_word, point_row, IntOp.cmpi_slt, BitVec.slt_iff_toInt_lt]

/-- A valid block's index is its own: the clamp does nothing. -/
theorem clamp (q : Fin 160) (v : BitVec 32) (h : IntOp.cmpi .slt (BitVec.ofNat 32 q.val) v = 1#1) :
    (Scalar.minsi (BitVec.ofNat 32 q.val) (Scalar.subi v 1#32) : BitVec 32).toNat = q.val := by
  have h' := IntOp.cmpi_slt.mp h
  show (if (BitVec.ofNat 32 q.val).slt (v - 1#32) then BitVec.ofNat 32 q.val else v - 1#32 : BitVec 32).toNat = q.val
  split
  · rw [BitVec.toNat_ofNat]; omega
  · rename_i hn
    rw [BitVec.slt_iff_toInt_lt, BitVec.toInt_eq_toNat_cond, BitVec.toInt_eq_toNat_cond, BitVec.toNat_sub, BitVec.toNat_ofNat, BitVec.toNat_ofNat] at hn
    rw [BitVec.toInt_eq_toNat_cond, BitVec.toInt_eq_toNat_cond, BitVec.toNat_ofNat] at h'
    have := v.isLt
    have := q.isLt
    rw [BitVec.toNat_sub, BitVec.toNat_ofNat]
    split at h' <;> split at h' <;> split at hn <;> (try split at hn) <;> omega

theorem block_0 (q : Fin 160) (j : Fin 2) (hv : valid a (pointOf a q j)) (p : Fin 256) (k : Fin 2048) :
    (iblk m a c (0 : Fin 4) (pointOf a q j) : Vec Ideal S256x2048 .bf16) (ValueIdx.ix2 p k)
      = m ((c.tc : Thread nD τ).loc main_arg2) (ValueIdx.ix2 (rowOf q p) k) := by
  have hi : cc0_transform_0 inb_S1_S1_0 numel1_S1 a.1 (crd a (pointOf a q j)) = ![q.val, 0] := by
    rw [map_0, point_row, count_of, clamp q _ ((valid_iff a q j).mp hv)]
  unfold iblk
  rw [View.read_apply]
  refine Eq.trans ?_ (congrFun (keeps_2 m c) _)
  show V m c main_arg2 _ = V m c main_arg2 _
  refine congrArg (V m c main_arg2) (funext fun d => Fin.ext ?_)
  match d with
  | ⟨0, _⟩ => show cc0_transform_0 inb_S1_S1_0 numel1_S1 a.1 (crd a (pointOf a q j)) 0 * 256 + 1 * p.val = q.val * 256 + p.val
              rw [hi]; show q.val * 256 + 1 * p.val = q.val * 256 + p.val; omega
  | ⟨1, _⟩ => show cc0_transform_0 inb_S1_S1_0 numel1_S1 a.1 (crd a (pointOf a q j)) 1 * 2048 + 1 * k.val = k.val
              rw [hi]; show 0 * 2048 + 1 * k.val = k.val; omega

section
variable (q : Fin 160) (j : Fin 2) (e : Fin 32) (he : (tab0 a (ValueIdx.ix1 q) : BitVec 32).toNat = e.val)
include he

theorem block_1 (k : Fin 2048) (l : Fin 1024) :
    (iblk m a c (1 : Fin 4) (pointOf a q j) : Vec Ideal S1x2048x1024 .f32) (ValueIdx.ix3 0 k l)
      = m ((c.tc : Thread nD τ).loc main_arg3) (ValueIdx.ix4 0 e k (colOf j l)) := by
  have hi : cc0_transform_1 k0_off1_inb numel1_S1 a.1 (crd a (pointOf a q j)) = ![e.val, 0, j.val] := by
    rw [map_1, point_column, expert_of, he]
  unfold iblk
  rw [View.read_apply]
  refine Eq.trans ?_ (weights_entry m c e k (colOf j l))
  show V m c main_v0 _ = V m c main_v0 _
  refine congrArg (V m c main_v0) (funext fun d => Fin.ext ?_)
  match d with
  | ⟨0, _⟩ => show cc0_transform_1 k0_off1_inb numel1_S1 a.1 (crd a (pointOf a q j)) 0 * 1 + 1 * 0 = e.val
              rw [hi]; show e.val * 1 + 1 * 0 = e.val; omega
  | ⟨1, _⟩ => show cc0_transform_1 k0_off1_inb numel1_S1 a.1 (crd a (pointOf a q j)) 1 * 2048 + 1 * k.val = k.val
              rw [hi]; show 0 * 2048 + 1 * k.val = k.val; omega
  | ⟨2, _⟩ => show cc0_transform_1 k0_off1_inb numel1_S1 a.1 (crd a (pointOf a q j)) 2 * 1024 + 1 * l.val = j.val * 1024 + l.val
              rw [hi]; show j.val * 1024 + 1 * l.val = j.val * 1024 + l.val; omega

theorem block_2 (l : Fin 1024) :
    (iblk m a c (2 : Fin 4) (pointOf a q j) : Vec Ideal S1x1x1024 .f32) (ValueIdx.ix3 0 0 l)
      = m ((c.tc : Thread nD τ).loc main_arg4) (ValueIdx.ix3 0 e (colOf j l)) := by
  have hi : cc0_transform_2 k0_off1_inb numel1_S1 a.1 (crd a (pointOf a q j)) = ![e.val, 0, j.val] := by
    rw [map_2, point_column, expert_of, he]
  unfold iblk
  rw [View.read_apply]
  refine Eq.trans ?_ (bias_entry m c e (colOf j l))
  show V m c main_v2 _ = V m c main_v2 _
  refine congrArg (V m c main_v2) (funext fun d => Fin.ext ?_)
  match d with
  | ⟨0, _⟩ => show cc0_transform_2 k0_off1_inb numel1_S1 a.1 (crd a (pointOf a q j)) 0 * 1 + 1 * 0 = e.val
              rw [hi]; show e.val * 1 + 1 * 0 = e.val; omega
  | ⟨1, _⟩ => show cc0_transform_2 k0_off1_inb numel1_S1 a.1 (crd a (pointOf a q j)) 1 * 1 + 1 * 0 = 0
              rw [hi]; rfl
  | ⟨2, _⟩ => show cc0_transform_2 k0_off1_inb numel1_S1 a.1 (crd a (pointOf a q j)) 2 * 1024 + 1 * l.val = j.val * 1024 + l.val
              rw [hi]; show j.val * 1024 + 1 * l.val = j.val * 1024 + l.val; omega

/-- The reference, of the memory's arguments. -/
abbrev wanted : FVec Ideal Cert.Reference3Ideal.S40960x16x128 .f32 :=
  Ref.result (tab0 a) (tab1 a) (m ((c.tc : Thread nD τ).loc main_arg2)) (m ((c.tc : Thread nD τ).loc main_arg3)) (m ((c.tc : Thread nD τ).loc main_arg4))

/-- What a point leaves in the output's block is the reference's entry. -/
theorem out_entry (p : Fin 256) (r : Fin 8) (l : Fin 128) :
    outAt m a c (pointOf a q j) (ValueIdx.ix3 p r l) = wanted m a c (ValueIdx.ix3 (rowOf q p) (groupOf j r) l) := by
  unfold wanted
  rw [Ref.result_entry, column, Ref.sums_entry _ _ _ _ q p _ e he]
  unfold outAt
  by_cases hv : valid a (pointOf a q j)
  · rw [if_pos hv, (valid_iff a q j).mp hv, out_tile]
    show _ = affine _ _ _
    have e0 : (fun k => (iblk m a c (0 : Fin 4) (pointOf a q j) : Vec Ideal S256x2048 .bf16) (ValueIdx.ix2 p k))
        = fun k => m ((c.tc : Thread nD τ).loc main_arg2) (ValueIdx.ix2 (rowOf q p) k) := funext fun k => block_0 m a c q j hv p k
    have e1 : (fun k => wgt0 m a c (pointOf a q j) (ValueIdx.ix2 k (colIn r l)))
        = fun k => m ((c.tc : Thread nD τ).loc main_arg3) (ValueIdx.ix4 0 e k (colOf j (colIn r l))) :=
      funext fun k => (rounded_weights _ k (colIn r l)).trans (block_1 m a c q j e he k (colIn r l))
    have e2 := block_2 m a c q j e he (colIn r l)
    exact congr (congr (congrArg affine e0) e1) e2
  · have h0 : IntOp.cmpi .slt (BitVec.ofNat 32 q.val) (tab1 a (ValueIdx.ix1 0) : BitVec 32) = 0#1 := by
      rcases BitVec.eq_zero_or_eq_one (IntOp.cmpi .slt (BitVec.ofNat 32 q.val) (tab1 a (ValueIdx.ix1 0) : BitVec 32)) with h | h
      · exact h
      · exact absurd ((valid_iff a q j).mpr h) hv
    rw [if_neg hv, h0, past_tile]
    rfl

end

/-! ## The result array -/

theorem out_index (t : Fin (cfgA a).N) : ((cfgA a).win (3 : Fin 4)).index t = ![t.val % 160, t.val / 160, 0] := by
  refine (map_3 (crd a t)).trans ?_
  exact congrArg₂ (fun (u v : ℕ) => (![u, v, 0] : Fin 3 → ℕ)) (row_of t) (column_of t)

theorem out_inj (t t' : Fin (cfgA a).N) (h : ((cfgA a).win (3 : Fin 4)).index t = ((cfgA a).win (3 : Fin 4)).index t') : t = t' := by
  rw [out_index, out_index] at h
  have h0 : t.val % 160 = t'.val % 160 := congrFun h 0
  have h1 : t.val / 160 = t'.val / 160 := congrFun h 1
  exact Fin.ext (by omega)

theorem out_flushes (t : Fin (cfgA a).N) : ((cfgA a).win (3 : Fin 4)).flush t = true := by
  refine (((cfgA a).win (3 : Fin 4)).flush_reads rfl 1 (by decide : 1 < grid0.bound 1) (by decide : grid0.fixedAfter reads0_3 1 = true) ?_
    (by decide : grid0.stride 1 = 1) (m := 0) rfl t).mpr (Nat.mod_one _)
  intro i i' h
  have h' : cc0_transform_3 i = cc0_transform_3 i' := h
  rw [map_3, map_3] at h'
  exact Fin.ext (congrFun h' 0)

theorem array_entry (hg : Good a.1) (q : Fin 160) (p : Fin 256) (j : Fin 2) (r : Fin 8) (l : Fin 128) :
    (dats m a 0 c).arrAt (3 : Fin 4) (cfgA a).N (ValueIdx.ix3 (rowOf q p) (groupOf j r) l) = wanted m a c (ValueIdx.ix3 (rowOf q p) (groupOf j r) l) := by
  have h := (dats m a 0 c).read_blk_arrAt_eq_flushed (3 : Fin 4) (fun t t' _ _ hne => ((cfgA a).win (3 : Fin 4)).disjoint_blk fun h => hne (out_inj a t t' h))
    (cfgA a).N (pointOf a q j) (pointOf a q j).isLt (out_flushes a _)
  have e := out_entry m a c q j ⟨_, hg.1 (ValueIdx.ix1 q)⟩ rfl p r l
  have hi : cc0_transform_3 (crd a (pointOf a q j)) = ![q.val, j.val, 0] := by rw [map_3, point_row, point_column]
  generalize (dats m a 0 c).arrAt (3 : Fin 4) (cfgA a).N = A at h ⊢
  have h' := congrFun h (ValueIdx.ix3 p r l)
  rw [View.read_apply] at h'
  refine Eq.trans ?_ (h'.trans e)
  refine congrArg A (funext fun d => Fin.ext ?_)
  match d with
  | ⟨0, _⟩ => show q.val * 256 + p.val = cc0_transform_3 (crd a (pointOf a q j)) 0 * 256 + 1 * p.val
              rw [hi]; show q.val * 256 + p.val = q.val * 256 + 1 * p.val; omega
  | ⟨1, _⟩ => show j.val * 8 + r.val = cc0_transform_3 (crd a (pointOf a q j)) 1 * 8 + 1 * r.val
              rw [hi]; show j.val * 8 + r.val = j.val * 8 + 1 * r.val; omega
  | ⟨2, _⟩ => show l.val = cc0_transform_3 (crd a (pointOf a q j)) 2 * 128 + 1 * l.val
              rw [hi]; show l.val = 0 * 128 + 1 * l.val; omega

/-- The kernel's result is the reference's. -/
theorem equal (hg : Good a.1) : (dats m a 0 c).arrAt (3 : Fin 4) (cfgA a).N = wanted m a c := by
  funext x
  have h0 : (x 0).val < 40960 := (x 0).isLt
  have h1 : (x 1).val < 16 := (x 1).isLt
  have hx : x = ValueIdx.ix3 (rowOf ⟨(x 0).val / 256, by omega⟩ ⟨(x 0).val % 256, by omega⟩) (groupOf ⟨(x 1).val / 8, by omega⟩ ⟨(x 1).val % 8, by omega⟩) (x 2) := by
    funext k
    refine Fin.ext ?_
    match k with
    | ⟨0, _⟩ => show (x 0).val = (x 0).val / 256 * 256 + (x 0).val % 256; omega
    | ⟨1, _⟩ => show (x 1).val = (x 1).val / 8 * 8 + (x 1).val % 8; omega
    | ⟨2, _⟩ => rfl
  rw [hx]
  exact array_entry m a c hg _ _ _ _ _

end Cert.Down

end
-- ==== Proof.Input.Reference.lean ====
/-
  The reference of the input projections at an entry, at the exact real-valued operations: a row of `x` over its root
  mean square, times the gain and `1 + sc`, plus `sh`, against a column of the weights.
-/
module

public import proofs.«01_k».proof.Proof.Gen.Reference2Ideal.Run
public import Idealize.ShloMosaic.Lib.Pointwise

@[expose] public section

set_option maxRecDepth 16384

noncomputable section

namespace Cert.Input

open Idealize.ShloMosaic Idealize.ShloMosaic.TcCoe

/-- One entry of a row, normalised, scaled and shifted. -/
def modulated (x g s h : Fin 2048 → EReal) (i : Fin 2048) : EReal :=
  x i * Ideal.rsqrt (Ideal.div (∑ k, x k * x k) (Ideal.ofBits FTy.f32 0x45000000#32) + Ideal.ofBits FTy.f32 0x3727C5AC#32) * g i * (1 + s i) + h i

/-- A row against a column of the weights. -/
def projected (x g s h w : Fin 2048 → EReal) : EReal := ∑ i, modulated x g s h i * w i

namespace Ref

open Cert.Reference2Ideal Cert.Reference2Ideal.Gen

variable (x : FVec Ideal S2x4096x2048 .f32) (g : FVec Ideal S1x2048 .f32) (s h : FVec Ideal S2x1x2048 .f32) (w : FVec Ideal S1x2048x4512 .f32)

/-- The modulated rows, as the reference computes them. -/
def rows : FVec Ideal S2x4096x2048 .f32 :=
  addf (mulf (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x3727C5AC#32)))))) (broadcastInDim S2x4096x2048 ![0, 1, 2] bcast_S1x1x2048_S2x4096x2048_0_1_2 (broadcastInDim S1x1x2048 ![2] bcast_S2048_S1x1x2048_2 (shapeCast _ g shapeCasts_S1x2048_S2048)))) (broadcastInDim S2x4096x2048 ![0, 1, 2] bcast_S2x1x2048_S2x4096x2048_0_1_2 (addf (broadcastInDim S2x1x2048 ![] bcast_S_S2x1x2048 (constant S_ .f32 0x3F800000#32)) s))) (broadcastInDim S2x4096x2048 ![0, 1, 2] bcast_S2x1x2048_S2x4096x2048_0_1_2 h)

/-- All the projections. -/
def both : FVec Ideal S2x4096x4512 .f32 :=
  Host.dotGeneral dot_S2x4096x2048_S2048x4512_S2x4096x4512_2_0_01_1_n_n none (rows x g s h) (shapeCast S2048x4512 w shapeCasts_S1x2048x4512_S2048x4512)

theorem rows_entry (q : Fin 2) (p : Fin 4096) (i : Fin 2048) :
    rows x g s h (ValueIdx.ix3 q p i)
      = modulated (fun k => x (ValueIdx.ix3 q p k)) (fun k => g (ValueIdx.ix2 0 k)) (fun k => s (ValueIdx.ix3 q 0 k)) (fun k => h (ValueIdx.ix3 q 0 k)) i := by
  unfold modulated
  pointwise [rows]
  try rfl

theorem both_entry (q : Fin 2) (p : Fin 4096) (l : Fin 4512) :
    both x g s h w (ValueIdx.ix3 q p l)
      = projected (fun k => x (ValueIdx.ix3 q p k)) (fun k => g (ValueIdx.ix2 0 k)) (fun k => s (ValueIdx.ix3 q 0 k)) (fun k => h (ValueIdx.ix3 q 0 k))
          (fun k => w (ValueIdx.ix3 0 k l)) := by
  have e : both x g s h w (ValueIdx.ix3 q p l) = ∑ k : Fin 2048, rows x g s h (ValueIdx.ix3 q p k) * w (ValueIdx.ix3 0 k l) := by
    unfold both
    generalize rows x g s h = z
    pointwise
    try rfl
  rw [e]
  exact Finset.sum_congr rfl fun k _ => congrArg (· * _) (rows_entry x g s h q p k)

/-- A column among the first 1024. -/
def early (l : Fin 1024) : Fin 4512 := ⟨l.val, by omega⟩

/-- A column among the rest. -/
def late (l : Fin 3488) : Fin 4512 := ⟨1024 + l.val, by omega⟩

/-- The first result. -/
def first : FVec Ideal S2x4096x1024 .f32 := extractStridedSlice S2x4096x1024 ![0, 0, 0] (both x g s h w) slices_S2x4096x4512_S2x4096x1024_0_0_0

/-- The second. -/
def second : FVec Ideal S2x4096x3488 .f32 := extractStridedSlice S2x4096x3488 ![0, 0, 1024] (both x g s h w) slices_S2x4096x4512_S2x4096x3488_0_0_1024

theorem first_entry (q : Fin 2) (p : Fin 4096) (l : Fin 1024) :
    first x g s h w (ValueIdx.ix3 q p l) = both x g s h w (ValueIdx.ix3 q p (early l)) := by
  unfold first
  generalize both x g s h w = z
  pointwise
  try rfl

theorem second_entry (q : Fin 2) (p : Fin 4096) (l : Fin 3488) :
    second x g s h w (ValueIdx.ix3 q p l) = both x g s h w (ValueIdx.ix3 q p (late l)) := by
  unfold second
  generalize both x g s h w = z
  pointwise
  try rfl

end Ref

end Cert.Input

end
-- ==== Proof.Input.Value.lean ====
/-
  The input projections' kernel at an entry: what its blocks are of the arguments, what a grid point leaves in the two
  outputs, and that the two result arrays are the reference's.
-/
module

public import proofs.«01_k».proof.Proof.Gen.Kernel2Ideal.Frame
public import proofs.«01_k».proof.Proof.Input.Reference
public import Idealize.ShloMosaic.Lib.Pipeline.Value

@[expose] public section

set_option maxRecDepth 16384

noncomputable section

namespace Cert.Input

open Cert.Kernel2Ideal Cert.Kernel2Ideal.Gen Idealize.ShloMosaic Idealize.ShloMosaic.TcCoe
open Cert.Input.Ref (early late)

/-! A point's payloads. -/

section
variable (v0 : Vec Ideal S1x256x2048 .f32) (v2 : Vec Ideal S1x2048 .f32) (v4 v6 : Vec Ideal S1x1x2048 .f32)

theorem tile_entry (r : Fin 256) (i : Fin 2048) :
    k0_pay2 v0 v2 v4 v6 (ValueIdx.ix2 r i)
      = modulated (fun k => v0 (ValueIdx.ix3 0 r k)) (fun k => v2 (ValueIdx.ix2 0 k)) (fun k => v4 (ValueIdx.ix3 0 0 k)) (fun k => v6 (ValueIdx.ix3 0 0 k)) i := by
  unfold modulated
  pointwise [k0_pay2]
  try rfl

theorem first_tile (w : Vec Ideal S2048x1024 .bf16) (r : Fin 256) (l : Fin 1024) :
    k0_pay3 v0 v2 v4 v6 w (ValueIdx.ix3 0 r l)
      = projected (fun k => v0 (ValueIdx.ix3 0 r k)) (fun k => v2 (ValueIdx.ix2 0 k)) (fun k => v4 (ValueIdx.ix3 0 0 k)) (fun k => v6 (ValueIdx.ix3 0 0 k))
          (fun k => w (ValueIdx.ix2 k l)) := by
  have e : k0_pay3 v0 v2 v4 v6 w (ValueIdx.ix3 0 r l) = ∑ k : Fin 2048, k0_pay2 v0 v2 v4 v6 (ValueIdx.ix2 r k) * w (ValueIdx.ix2 k l) := by
    unfold k0_pay3
    generalize k0_pay2 v0 v2 v4 v6 = z
    pointwise
    try rfl
  rw [e]
  exact Finset.sum_congr rfl fun k _ => congrArg (· * _) (tile_entry v0 v2 v4 v6 r k)

theorem second_tile (w : Vec Ideal S2048x3488 .bf16) (r : Fin 256) (l : Fin 3488) :
    k0_pay1 (k0_pay2 v0 v2 v4 v6) w (ValueIdx.ix3 0 r l)
      = projected (fun k => v0 (ValueIdx.ix3 0 r k)) (fun k => v2 (ValueIdx.ix2 0 k)) (fun k => v4 (ValueIdx.ix3 0 0 k)) (fun k => v6 (ValueIdx.ix3 0 0 k))
          (fun k => w (ValueIdx.ix2 k l)) := by
  have e : k0_pay1 (k0_pay2 v0 v2 v4 v6) w (ValueIdx.ix3 0 r l) = ∑ k : Fin 2048, k0_pay2 v0 v2 v4 v6 (ValueIdx.ix2 r k) * w (ValueIdx.ix2 k l) := by
    unfold k0_pay1
    generalize k0_pay2 v0 v2 v4 v6 = z
    pointwise
    try rfl
  rw [e]
  exact Finset.sum_congr rfl fun k _ => congrArg (· * _) (tile_entry v0 v2 v4 v6 r k)

end

theorem zero2 : (![0, 0] : Fin 2 → ℕ) = fun _ => 0 := by funext k; match k with | ⟨0, _⟩ => rfl | ⟨1, _⟩ => rfl
theorem zero3 : (![0, 0, 0] : Fin 3 → ℕ) = fun _ => 0 := by funext k; match k with | ⟨0, _⟩ => rfl | ⟨1, _⟩ => rfl | ⟨2, _⟩ => rfl

section
variable (x0 : Vec Ideal S1x256x2048 .f32) (x1 : Vec Ideal S1x2048 .f32) (x2 x3 : Vec Ideal S1x1x2048 .f32) (x4 : Vec Ideal S2048x1024 .bf16) (x5 : Vec Ideal S2048x3488 .bf16)

theorem left_6 : out0_6 x0 x1 x2 x3 x4 x5 = k0_pay3 x0 x1 x2 x3 x4 := by
  unfold out0_6
  rw [View.canon_unit_zero (S := S1x256x1024) zero3, View.ld_unit_zero (S := S1x256x2048) zero3, View.ld_unit_zero (S := S1x2048) zero2,
    View.ld_unit_zero (S := S1x1x2048) zero3, View.ld_unit_zero (S := S1x1x2048) zero3, View.ld_unit_zero (S := S2048x1024) zero2]

theorem left_7 : out0_7 x0 x1 x2 x3 x4 x5 = k0_pay1 (k0_pay2 x0 x1 x2 x3) x5 := by
  unfold out0_7
  rw [View.canon_unit_zero (S := S1x256x3488) zero3, View.ld_unit_zero (S := S1x256x2048) zero3, View.ld_unit_zero (S := S1x2048) zero2,
    View.ld_unit_zero (S := S1x1x2048) zero3, View.ld_unit_zero (S := S1x1x2048) zero3, View.ld_unit_zero (S := S2048x3488) zero2]

end

/-! A point's blocks of the arguments. -/

variable (m : (ℓ : Loc nD τ sig) → Buf (Elt Ideal) ℓ) (c : Dev nD)

theorem gain_entry (k : Fin 2048) : V m c main_v7 (ValueIdx.ix2 0 k) = m ((c.tc : Thread nD τ).loc main_arg1) (ValueIdx.ix2 0 k) := by
  have e : (V m c main_v7 : Vec Ideal S1x2048 .f32) = shapeCast S1x2048 (shapeCast S2048 (m ((c.tc : Thread nD τ).loc main_arg1)) shapeCasts_S1x2048_S2048) shapeCasts_S2048_S1x2048 := by
    show StableHlo.after hostOps0 _ (Proc.devRef .tc main_v7) = _
    after_results <;> rfl
  refine (congrFun e _).trans ?_
  pointwise
  try rfl

/-- The weights' first columns, as the kernel is handed them. -/
def earlyWeights (w : FVec Ideal S1x2048x4512 .f32) : FVec Ideal S2048x1024 .bf16 :=
  truncf .bf16 (extractStridedSlice S2048x1024 ![0, 0] (shapeCast S2048x4512 w shapeCasts_S1x2048x4512_S2048x4512) slices_S2048x4512_S2048x1024_0_0) bitsLt_bf16_f32

/-- The weights' other columns. -/
def lateWeights (w : FVec Ideal S1x2048x4512 .f32) : FVec Ideal S2048x3488 .bf16 :=
  truncf .bf16 (extractStridedSlice S2048x3488 ![0, 1024] (shapeCast S2048x4512 w shapeCasts_S1x2048x4512_S2048x4512) slices_S2048x4512_S2048x3488_0_1024) bitsLt_bf16_f32

theorem earlyWeights_entry (w : FVec Ideal S1x2048x4512 .f32) (k : Fin 2048) (l : Fin 1024) :
    earlyWeights w (ValueIdx.ix2 k l) = w (ValueIdx.ix3 0 k (early l)) := by
  pointwise [earlyWeights]
  try rfl

theorem lateWeights_entry (w : FVec Ideal S1x2048x4512 .f32) (k : Fin 2048) (l : Fin 3488) :
    lateWeights w (ValueIdx.ix2 k l) = w (ValueIdx.ix3 0 k (late l)) := by
  pointwise [lateWeights]
  try rfl

theorem early_entry (k : Fin 2048) (l : Fin 1024) :
    V m c main_v2 (ValueIdx.ix2 k l) = m ((c.tc : Thread nD τ).loc main_arg4) (ValueIdx.ix3 0 k (early l)) := by
  have e : V m c main_v2 = earlyWeights (m ((c.tc : Thread nD τ).loc main_arg4)) := by
    show StableHlo.after hostOps0 _ (Proc.devRef .tc main_v2) = _
    after_results <;> rfl
  exact (congrFun e _).trans (earlyWeights_entry _ k l)

theorem late_entry (k : Fin 2048) (l : Fin 3488) :
    V m c main_v5 (ValueIdx.ix2 k l) = m ((c.tc : Thread nD τ).loc main_arg4) (ValueIdx.ix3 0 k (late l)) := by
  have e : V m c main_v5 = lateWeights (m ((c.tc : Thread nD τ).loc main_arg4)) := by
    show StableHlo.after hostOps0 _ (Proc.devRef .tc main_v5) = _
    after_results <;> rfl
  exact (congrFun e _).trans (lateWeights_entry _ k l)

theorem at_0 : ∀ t : Fin grid0.N, win0_0.index t = ![t.val / 16, t.val % 16, 0] := by decide +kernel
theorem at_1 : ∀ t : Fin grid0.N, win0_1.index t = ![0, 0] := by decide +kernel
theorem at_2 : ∀ t : Fin grid0.N, win0_2.index t = ![t.val / 16, 0, 0] := by decide +kernel
theorem at_3 : ∀ t : Fin grid0.N, win0_3.index t = ![t.val / 16, 0, 0] := by decide +kernel
theorem at_4 : ∀ t : Fin grid0.N, win0_4.index t = ![0, 0] := by decide +kernel
theorem at_5 : ∀ t : Fin grid0.N, win0_5.index t = ![0, 0] := by decide +kernel
theorem at_6 : ∀ t : Fin grid0.N, win0_6.index t = ![t.val / 16, t.val % 16, 0] := by decide +kernel
theorem at_7 : ∀ t : Fin grid0.N, win0_7.index t = ![t.val / 16, t.val % 16, 0] := by decide +kernel

theorem N_32 : cfg0.N = 32 := by decide +kernel

/-- The batch of a point. -/
def batchAt (t : Fin cfg0.N) : Fin 2 := ⟨t.val / 16, by have := lt_of_lt_of_eq t.isLt N_32; omega⟩

/-- A row of a point's block, among all the rows. -/
def rowAt (t : Fin cfg0.N) (r : Fin 256) : Fin 4096 := ⟨t.val % 16 * 256 + r.val, by omega⟩

variable (t : Fin cfg0.N)

theorem block_0 (r : Fin 256) (k : Fin 2048) :
    (iblk m c 0 t : Vec Ideal S1x256x2048 .f32) (ValueIdx.ix3 0 r k) = m ((c.tc : Thread nD τ).loc main_arg0) (ValueIdx.ix3 (batchAt t) (rowAt t r) k) := by
  have hi := at_0 t
  unfold iblk
  rw [View.read_apply]
  refine Eq.trans ?_ (congrFun (V_main_arg0 m c) _)
  show V m c main_arg0 _ = V m c main_arg0 _
  refine congrArg (V m c main_arg0) (funext fun a => Fin.ext ?_)
  match a with
  | ⟨0, _⟩ => show win0_0.index t 0 * 1 + 1 * 0 = t.val / 16; rw [hi]; show t.val / 16 * 1 + 1 * 0 = t.val / 16; omega
  | ⟨1, _⟩ => show win0_0.index t 1 * 256 + 1 * r.val = t.val % 16 * 256 + r.val; rw [hi]; show t.val % 16 * 256 + 1 * r.val = t.val % 16 * 256 + r.val; omega
  | ⟨2, _⟩ => show win0_0.index t 2 * 2048 + 1 * k.val = k.val; rw [hi]; show 0 * 2048 + 1 * k.val = k.val; omega

theorem block_1 (k : Fin 2048) :
    (iblk m c 1 t : Vec Ideal S1x2048 .f32) (ValueIdx.ix2 0 k) = m ((c.tc : Thread nD τ).loc main_arg1) (ValueIdx.ix2 0 k) := by
  have hi := at_1 t
  unfold iblk
  rw [View.read_apply]
  refine Eq.trans ?_ (gain_entry m c k)
  show V m c main_v7 _ = V m c main_v7 _
  refine congrArg (V m c main_v7) (funext fun a => Fin.ext ?_)
  match a with
  | ⟨0, _⟩ => show win0_1.index t 0 * 1 + 1 * 0 = 0; rw [hi]; show 0 * 1 + 1 * 0 = 0; omega
  | ⟨1, _⟩ => show win0_1.index t 1 * 2048 + 1 * k.val = k.val; rw [hi]; show 0 * 2048 + 1 * k.val = k.val; omega

theorem block_2 (k : Fin 2048) :
    (iblk m c 2 t : Vec Ideal S1x1x2048 .f32) (ValueIdx.ix3 0 0 k) = m ((c.tc : Thread nD τ).loc main_arg2) (ValueIdx.ix3 (batchAt t) 0 k) := by
  have hi := at_2 t
  unfold iblk
  rw [View.read_apply]
  refine Eq.trans ?_ (congrFun (V_main_arg2 m c) _)
  show V m c main_arg2 _ = V m c main_arg2 _
  refine congrArg (V m c main_arg2) (funext fun a => Fin.ext ?_)
  match a with
  | ⟨0, _⟩ => show win0_2.index t 0 * 1 + 1 * 0 = t.val / 16; rw [hi]; show t.val / 16 * 1 + 1 * 0 = t.val / 16; omega
  | ⟨1, _⟩ => show win0_2.index t 1 * 1 + 1 * 0 = 0; rw [hi]; show 0 * 1 + 1 * 0 = 0; omega
  | ⟨2, _⟩ => show win0_2.index t 2 * 2048 + 1 * k.val = k.val; rw [hi]; show 0 * 2048 + 1 * k.val = k.val; omega

theorem block_3 (k : Fin 2048) :
    (iblk m c 3 t : Vec Ideal S1x1x2048 .f32) (ValueIdx.ix3 0 0 k) = m ((c.tc : Thread nD τ).loc main_arg3) (ValueIdx.ix3 (batchAt t) 0 k) := by
  have hi := at_3 t
  unfold iblk
  rw [View.read_apply]
  refine Eq.trans ?_ (congrFun (V_main_arg3 m c) _)
  show V m c main_arg3 _ = V m c main_arg3 _
  refine congrArg (V m c main_arg3) (funext fun a => Fin.ext ?_)
  match a with
  | ⟨0, _⟩ => show win0_3.index t 0 * 1 + 1 * 0 = t.val / 16; rw [hi]; show t.val / 16 * 1 + 1 * 0 = t.val / 16; omega
  | ⟨1, _⟩ => show win0_3.index t 1 * 1 + 1 * 0 = 0; rw [hi]; show 0 * 1 + 1 * 0 = 0; omega
  | ⟨2, _⟩ => show win0_3.index t 2 * 2048 + 1 * k.val = k.val; rw [hi]; show 0 * 2048 + 1 * k.val = k.val; omega

theorem block_4 (k : Fin 2048) (l : Fin 1024) :
    (iblk m c 4 t : Vec Ideal S2048x1024 .bf16) (ValueIdx.ix2 k l) = m ((c.tc : Thread nD τ).loc main_arg4) (ValueIdx.ix3 0 k (early l)) := by
  have hi := at_4 t
  unfold iblk
  rw [View.read_apply]
  refine Eq.trans ?_ (early_entry m c k l)
  show V m c main_v2 _ = V m c main_v2 _
  refine congrArg (V m c main_v2) (funext fun a => Fin.ext ?_)
  match a with
  | ⟨0, _⟩ => show win0_4.index t 0 * 2048 + 1 * k.val = k.val; rw [hi]; show 0 * 2048 + 1 * k.val = k.val; omega
  | ⟨1, _⟩ => show win0_4.index t 1 * 1024 + 1 * l.val = l.val; rw [hi]; show 0 * 1024 + 1 * l.val = l.val; omega

theorem block_5 (k : Fin 2048) (l : Fin 3488) :
    (iblk m c 5 t : Vec Ideal S2048x3488 .bf16) (ValueIdx.ix2 k l) = m ((c.tc : Thread nD τ).loc main_arg4) (ValueIdx.ix3 0 k (late l)) := by
  have hi := at_5 t
  unfold iblk
  rw [View.read_apply]
  refine Eq.trans ?_ (late_entry m c k l)
  show V m c main_v5 _ = V m c main_v5 _
  refine congrArg (V m c main_v5) (funext fun a => Fin.ext ?_)
  match a with
  | ⟨0, _⟩ => show win0_5.index t 0 * 2048 + 1 * k.val = k.val; rw [hi]; show 0 * 2048 + 1 * k.val = k.val; omega
  | ⟨1, _⟩ => show win0_5.index t 1 * 3488 + 1 * l.val = l.val; rw [hi]; show 0 * 3488 + 1 * l.val = l.val; omega

/-- The row of the arguments that a result's row is made of, against a column of the weights. -/
def made (q : Fin 2) (p : Fin 4096) (l : Fin 4512) : EReal :=
  projected (fun k => m ((c.tc : Thread nD τ).loc main_arg0) (ValueIdx.ix3 q p k)) (fun k => m ((c.tc : Thread nD τ).loc main_arg1) (ValueIdx.ix2 0 k))
    (fun k => m ((c.tc : Thread nD τ).loc main_arg2) (ValueIdx.ix3 q 0 k)) (fun k => m ((c.tc : Thread nD τ).loc main_arg3) (ValueIdx.ix3 q 0 k))
    (fun k => m ((c.tc : Thread nD τ).loc main_arg4) (ValueIdx.ix3 0 k l))

theorem after_6 (r : Fin 256) (l : Fin 1024) :
    ((dats m 0 c).after 6 t : Vec Ideal S1x256x1024 .f32) (ValueIdx.ix3 0 r l) = made m c (batchAt t) (rowAt t r) (early l) := by
  have e : (dats m 0 c).after 6 t = k0_pay3 (iblk m c 0 t) (iblk m c 1 t) (iblk m c 2 t) (iblk m c 3 t) (iblk m c 4 t) :=
    (after0_6 m c t).trans (left_6 _ _ _ _ _ _)
  rw [e]
  refine (first_tile _ _ _ _ _ r l).trans ?_
  unfold made
  congr 1
  · funext k; exact block_0 m c t r k
  · funext k; exact block_1 m c t k
  · funext k; exact block_2 m c t k
  · funext k; exact block_3 m c t k
  · funext k; exact block_4 m c t k l

theorem after_7 (r : Fin 256) (l : Fin 3488) :
    ((dats m 0 c).after 7 t : Vec Ideal S1x256x3488 .f32) (ValueIdx.ix3 0 r l) = made m c (batchAt t) (rowAt t r) (late l) := by
  have e : (dats m 0 c).after 7 t = k0_pay1 (k0_pay2 (iblk m c 0 t) (iblk m c 1 t) (iblk m c 2 t) (iblk m c 3 t)) (iblk m c 5 t) :=
    (after0_7 m c t).trans (left_7 _ _ _ _ _ _)
  rw [e]
  refine (second_tile _ _ _ _ _ r l).trans ?_
  unfold made
  congr 1
  · funext k; exact block_0 m c t r k
  · funext k; exact block_1 m c t k
  · funext k; exact block_2 m c t k
  · funext k; exact block_3 m c t k
  · funext k; exact block_5 m c t k l

/-! The final arrays, block by block. -/

theorem inj_6 : ∀ t t' : Fin cfg0.N, win0_6.index t = win0_6.index t' → t = t' :=
  (by decide +kernel : ∀ t t' : Fin grid0.N, win0_6.index t = win0_6.index t' → t = t')

theorem inj_7 : ∀ t t' : Fin cfg0.N, win0_7.index t = win0_7.index t' → t = t' :=
  (by decide +kernel : ∀ t t' : Fin grid0.N, win0_7.index t = win0_7.index t' → t = t')

theorem flushes_6 : ∀ t : Fin cfg0.N, (cfg0.win 6).flush t = true := by decide +kernel
theorem flushes_7 : ∀ t : Fin cfg0.N, (cfg0.win 7).flush t = true := by decide +kernel

/-- The point that writes a row. -/
def pointOf (q : Fin 2) (p : Fin 4096) : Fin cfg0.N := ⟨q.val * 16 + p.val / 256, lt_of_lt_of_eq (by omega) N_32.symm⟩

/-- The row's place in that point's block. -/
def placeOf (p : Fin 4096) : Fin 256 := ⟨p.val % 256, by omega⟩

theorem batch_of_point (q : Fin 2) (p : Fin 4096) : batchAt (pointOf q p) = q := by
  apply Fin.ext; show (q.val * 16 + p.val / 256) / 16 = q.val; omega

theorem row_of_place (q : Fin 2) (p : Fin 4096) : rowAt (pointOf q p) (placeOf p) = p := by
  apply Fin.ext; show (q.val * 16 + p.val / 256) % 16 * 256 + p.val % 256 = p.val; omega

theorem array_6 (q : Fin 2) (p : Fin 4096) (l : Fin 1024) :
    (dats m 0 c).arrAt 6 cfg0.N (ValueIdx.ix3 q p l) = made m c q p (early l) := by
  have h := (dats m 0 c).read_blk_arrAt_eq_flushed 6 (fun t t' _ _ hne => (cfg0.win 6).disjoint_blk fun h => hne (inj_6 t t' h))
    cfg0.N (pointOf q p) (pointOf q p).isLt (flushes_6 _)
  have h' := congrFun h (ValueIdx.ix3 0 (placeOf p) l)
  rw [View.read_apply] at h'
  have e := (after_6 m c (pointOf q p) (placeOf p) l)
  rw [batch_of_point, row_of_place] at e
  refine Eq.trans ?_ (h'.trans e)
  show (dats m 0 c).arrAt 6 cfg0.N _ = (dats m 0 c).arrAt 6 cfg0.N _
  have hi := at_6 (pointOf q p)
  refine congrArg ((dats m 0 c).arrAt 6 cfg0.N) (funext fun a => Fin.ext ?_)
  match a with
  | ⟨0, _⟩ => show q.val = win0_6.index (pointOf q p) 0 * 1 + 1 * 0; rw [hi]; show q.val = (q.val * 16 + p.val / 256) / 16 * 1 + 1 * 0; omega
  | ⟨1, _⟩ => show p.val = win0_6.index (pointOf q p) 1 * 256 + 1 * (p.val % 256); rw [hi]; show p.val = (q.val * 16 + p.val / 256) % 16 * 256 + 1 * (p.val % 256); omega
  | ⟨2, _⟩ => show l.val = win0_6.index (pointOf q p) 2 * 1024 + 1 * l.val; rw [hi]; show l.val = 0 * 1024 + 1 * l.val; omega

theorem array_7 (q : Fin 2) (p : Fin 4096) (l : Fin 3488) :
    (dats m 0 c).arrAt 7 cfg0.N (ValueIdx.ix3 q p l) = made m c q p (late l) := by
  have h := (dats m 0 c).read_blk_arrAt_eq_flushed 7 (fun t t' _ _ hne => (cfg0.win 7).disjoint_blk fun h => hne (inj_7 t t' h))
    cfg0.N (pointOf q p) (pointOf q p).isLt (flushes_7 _)
  have h' := congrFun h (ValueIdx.ix3 0 (placeOf p) l)
  rw [View.read_apply] at h'
  have e := (after_7 m c (pointOf q p) (placeOf p) l)
  rw [batch_of_point, row_of_place] at e
  refine Eq.trans ?_ (h'.trans e)
  show (dats m 0 c).arrAt 7 cfg0.N _ = (dats m 0 c).arrAt 7 cfg0.N _
  have hi := at_7 (pointOf q p)
  refine congrArg ((dats m 0 c).arrAt 7 cfg0.N) (funext fun a => Fin.ext ?_)
  match a with
  | ⟨0, _⟩ => show q.val = win0_7.index (pointOf q p) 0 * 1 + 1 * 0; rw [hi]; show q.val = (q.val * 16 + p.val / 256) / 16 * 1 + 1 * 0; omega
  | ⟨1, _⟩ => show p.val = win0_7.index (pointOf q p) 1 * 256 + 1 * (p.val % 256); rw [hi]; show p.val = (q.val * 16 + p.val / 256) % 16 * 256 + 1 * (p.val % 256); omega
  | ⟨2, _⟩ => show l.val = win0_7.index (pointOf q p) 2 * 3488 + 1 * l.val; rw [hi]; show l.val = 0 * 3488 + 1 * l.val; omega

/-! The results are the reference's. -/

theorem whole {a b e : ℕ} (x : (⟨3, ![a, b, e]⟩ : Shape).Idx) : x = ValueIdx.ix3 (n0 := a) (n1 := b) (n2 := e) (x 0) (x 1) (x 2) := by
  funext k
  match k with
  | ⟨0, _⟩ => rfl
  | ⟨1, _⟩ => rfl
  | ⟨2, _⟩ => rfl

theorem equal_6 : (dats m 0 c).arrAt 6 cfg0.N
    = Ref.first (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  funext x
  rw [whole x]
  exact (array_6 m c (x 0) (x 1) (x 2)).trans ((Ref.first_entry _ _ _ _ _ (x 0) (x 1) (x 2)).trans (Ref.both_entry _ _ _ _ _ (x 0) (x 1) (early (x 2)))).symm

theorem equal_7 : (dats m 0 c).arrAt 7 cfg0.N
    = Ref.second (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  funext x
  rw [whole x]
  exact (array_7 m c (x 0) (x 1) (x 2)).trans ((Ref.second_entry _ _ _ _ _ (x 0) (x 1) (x 2)).trans (Ref.both_entry _ _ _ _ _ (x 0) (x 1) (late (x 2)))).symm

end Cert.Input

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_tables
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Pre_tables3
public import proofs.«01_k».proof.Proof.Gate.Texts
public import proofs.«01_k».proof.Proof.Gate.Value
public import proofs.«01_k».proof.Proof.Down.Texts
public import proofs.«01_k».proof.Proof.Down.Value
public import proofs.«01_k».proof.Proof.Input.Value
public import Idealize.ShloMosaic.Lib.Quiescent

@[expose] public section

set_option maxRecDepth 65536

noncomputable section

namespace Cert.Proof

open Idealize.ShloMosaic Idealize.ShloMosaic.TcCoe Idealize.SL.Sem

/-! The experts' gate and up projections. -/

theorem good_bits (m : (ℓ : Loc Cert.Kernel.nD Cert.Kernel.τ Cert.Kernel.sig) → Buf (Elt Bits) ℓ) (hp : Pre_Kernel m) :
    Cert.Gate.Good (F := Bits) (Cert.Gate.tablesOf m) := Cert.Gate.ranges _ _ _ _ _ (hp 0)

/-- The kernel as it runs, in its own floats: its run at that instance. -/
theorem frame_kernel : Cert.quiescent_Kernel := by
  intro m g hp
  rw [Cert.Gate.Texts.labels]
  have hg := good_bits m hp
  have h := Cert.Gate.framed (F := Bits) m g (Cert.Gate.admitted (F := Bits) m hg) (Cert.Gate.admitted_holds (F := Bits) m hg)
  exact h

/-- The kernel over the extended reals. -/
theorem frame_ideal : Cert.quiescent_KernelIdeal := fun m g hp =>
  Cert.Gate.framed (F := Ideal) m g (Cert.Gate.admitted m (Cert.Gate.good_of m hp)) (Cert.Gate.admitted_holds m _)

/-- The reference: a host program, with no counters to leave raised. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem frame_reference_tables : Cert.quiescent_ReferenceIdeal_pre_tables := fun m g _ => frame_reference m g trivial

theorem rewrites : Cert.preserves_Kernel_KernelIdeal := trivial

section
open Cert.KernelIdeal Cert.KernelIdeal.Gen Cert.Gate

/-- What a run of the kernel leaves: the result at the array the grid's points write, the arguments as they were. -/
theorem left_by (m : (ℓ : Loc nD τ sig) → Buf (Elt Ideal) ℓ) (g : Dev nD → PrngReg) (a : (pcfg0 (F := Ideal)).Adm) (h : Holds m a) :
    θ_run (defs (F := Ideal)) (onTc (τ := τ) (main (F := Ideal))) ⟨m, fun _ => 0, g⟩ (fun r => ∀ c : Dev nD,
      r.2.mem ((c.tc : Thread nD τ).loc main_v4) = (dats m a 0 c).arrAt (5 : Fin 6) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1.1 c).1 (5 : Fin 6), h.2.1 c⟩)
    (θ_run_and (launched m g a h) (framed m g a h))

/-- The tables a memory holds are its first two arguments. -/
theorem wanted_of (m : (ℓ : Loc nD τ sig) → Buf (Elt Ideal) ℓ) (h : Good (tablesOf m)) (c : Dev nD) :
    wanted m (admitted m h) c = Ref.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  obtain rfl : c = 0 := Subsingleton.elim _ _
  rfl

end

/-- The kernel's result is the reference's. -/
theorem algebraic : Cert.algebraic_KernelIdeal_ReferenceIdeal := by
  intro m g m' g' hp hm
  have hg : Cert.Gate.Good (Cert.Gate.tablesOf m) := Cert.Gate.good_of m hp
  refine ⟨fun c => (Cert.Gate.dats m (Cert.Gate.admitted m hg) 0 c).arrAt (5 : Fin 6) (Cert.Gate.cfgA (Cert.Gate.admitted m hg)).N, ?_, ?_⟩
  · exact left_by m g _ (Cert.Gate.admitted_holds m hg)
  · refine (θ_run Cert.ReferenceIdeal.defs _ _).mono (fun r h c => ?_) (Cert.ReferenceIdeal.Value.run (F := Ideal) m' g')
    obtain ⟨e0, e1, e2, e3, e4⟩ := hm c
    obtain ⟨h0, ha⟩ := h c
    refine ⟨?_, ha⟩
    refine Eq.trans ?_ ((Cert.Gate.equal m (Cert.Gate.admitted m hg) c hg).trans (wanted_of m hg c)).symm
    rw [← e0, ← e1, ← e2, ← e3, ← e4]
    exact h0.trans (Cert.Gate.Ref.result_eq m' c)

/-! The input projections. -/

theorem input_kernel : Cert.quiescent_Kernel2 := fun m g _ => Cert.Kernel2.Gen.frame m g

theorem input_ideal : Cert.quiescent_Kernel2Ideal := fun m g _ => Cert.Kernel2Ideal.Gen.frame m g

theorem input_reference : Cert.quiescent_Reference2Ideal := fun m g _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m g)

theorem input_rewrites : Cert.preserves_Kernel2_Kernel2Ideal := trivial

section
open Cert.Kernel2Ideal Cert.Kernel2Ideal.Gen

/-- What a run of the input projections' kernel leaves. -/
theorem input_left (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      (r.2.mem ((c.tc : Thread nD τ).loc main_v8_0) = (dats m 0 c).arrAt 6 cfg0.N
      ∧ r.2.mem ((c.tc : Thread nD τ).loc main_v8_1) = (dats m 0 c).arrAt 7 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨⟨(h.1.1 c).1 6, (h.1.1 c).1 7⟩, h.2.1 c⟩)
    (θ_run_and (run_main_quiescent m g) (frame m g))

end

/-- The input projections' two results are the reference's. -/
theorem input_algebraic : Cert.algebraic_Kernel2Ideal_Reference2Ideal := by
  intro m g m' g' _ hm
  refine ⟨fun c => (Cert.Kernel2Ideal.Gen.dats m 0 c).arrAt 6 Cert.Kernel2Ideal.cfg0.N,
    fun c => (Cert.Kernel2Ideal.Gen.dats m 0 c).arrAt 7 Cert.Kernel2Ideal.cfg0.N, ?_, ?_⟩
  · exact (θ_run Cert.Kernel2Ideal.defs _ _).mono (fun r h c => ⟨(h c).1.1, (h c).1.2, (h c).2⟩) (input_left m g)
  · refine (θ_run Cert.Reference2Ideal.defs _ _).mono (fun r h c => ?_) (Cert.Reference2Ideal.Value.run (F := Ideal) m' g')
    obtain ⟨e0, e1, e2, e3, e4⟩ := hm c
    obtain ⟨h0, h1, ha⟩ := h c
    refine ⟨?_, ?_, ha⟩
    · refine Eq.trans ?_ (Cert.Input.equal_6 m c).symm
      rw [← e0, ← e1, ← e2, ← e3, ← e4]
      exact h0
    · refine Eq.trans ?_ (Cert.Input.equal_7 m c).symm
      rw [← e0, ← e1, ← e2, ← e3, ← e4]
      exact h1

/-! The experts' second product. -/

theorem down_good_bits (m : (ℓ : Loc Cert.Kernel3.nD Cert.Kernel3.τ Cert.Kernel3.sig) → Buf (Elt Bits) ℓ) (hp : Pre_Kernel3 m) :
    Cert.Down.Good (F := Bits) (Cert.Down.tablesOf m) := Cert.Down.ranges _ _ _ _ _ (hp 0)

/-- The kernel as it runs, in its own floats: its run at that instance. -/
theorem down_kernel : Cert.quiescent_Kernel3 := by
  intro m g hp
  rw [Cert.Down.Texts.labels]
  have hg := down_good_bits m hp
  have h := Cert.Down.framed (F := Bits) m g (Cert.Down.admitted (F := Bits) m hg) (Cert.Down.admitted_holds (F := Bits) m hg)
  exact h

/-- The kernel over the extended reals. -/
theorem down_ideal : Cert.quiescent_Kernel3Ideal := fun m g hp =>
  Cert.Down.framed (F := Ideal) m g (Cert.Down.admitted m (Cert.Down.good_of m hp)) (Cert.Down.admitted_holds m _)

/-- The reference: a host program, with no counters to leave raised. -/
theorem down_reference : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run (F := Ideal) m g)

theorem down_reference_tables : Cert.quiescent_Reference3Ideal_pre_tables3 := fun m g _ => down_reference m g trivial

theorem down_rewrites : Cert.preserves_Kernel3_Kernel3Ideal := trivial

section
open Cert.Kernel3Ideal Cert.Kernel3Ideal.Gen Cert.Down

/-- What a run of the kernel leaves: the result at the array the grid's points write, the arguments as they were. -/
theorem down_left_by (m : (ℓ : Loc nD τ sig) → Buf (Elt Ideal) ℓ) (g : Dev nD → PrngReg) (a : (pcfg0 (F := Ideal)).Adm) (h : Holds m a) :
    θ_run (defs (F := Ideal)) (onTc (τ := τ) (main (F := Ideal))) ⟨m, fun _ => 0, g⟩ (fun r => ∀ c : Dev nD,
      r.2.mem ((c.tc : Thread nD τ).loc main_v3) = (dats m a 0 c).arrAt (3 : Fin 4) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1.1 c).1 (3 : Fin 4), h.2.1 c⟩)
    (θ_run_and (launched m g a h) (framed m g a h))

/-- The tables a memory holds are its first two arguments. -/
theorem down_wanted_of (m : (ℓ : Loc nD τ sig) → Buf (Elt Ideal) ℓ) (h : Good (tablesOf m)) (c : Dev nD) :
    wanted m (admitted m h) c = Ref.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  obtain rfl : c = 0 := Subsingleton.elim _ _
  rfl

end

/-- The kernel's result is the reference's. -/
theorem down_algebraic : Cert.algebraic_Kernel3Ideal_Reference3Ideal := by
  intro m g m' g' hp hm
  have hg : Cert.Down.Good (Cert.Down.tablesOf m) := Cert.Down.good_of m hp
  refine ⟨fun c => (Cert.Down.dats m (Cert.Down.admitted m hg) 0 c).arrAt (3 : Fin 4) (Cert.Down.cfgA (Cert.Down.admitted m hg)).N, ?_, ?_⟩
  · exact down_left_by m g _ (Cert.Down.admitted_holds m hg)
  · refine (θ_run Cert.Reference3Ideal.defs _ _).mono (fun r h c => ?_) (Cert.Reference3Ideal.Value.run (F := Ideal) m' g')
    obtain ⟨e0, e1, e2, e3, e4⟩ := hm c
    obtain ⟨h0, ha⟩ := h c
    refine ⟨?_, ha⟩
    refine Eq.trans ?_ ((Cert.Down.equal m (Cert.Down.admitted m hg) c hg).trans (down_wanted_of m hg c)).symm
    rw [← e0, ← e1, ← e2, ← e3, ← e4]
    exact h0

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_tables.Gen.facts, Cert.Pre_tables3.Gen.facts,
  frame_kernel, frame_ideal, frame_reference, frame_reference_tables, input_kernel, input_ideal, input_reference,
  down_kernel, down_ideal, down_reference, down_reference_tables,
  rewrites, algebraic, input_rewrites, input_algebraic, down_rewrites, down_algebraic⟩

end Cert.Proof

end
